-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x20x4x160x256 : Shape := ⟨5, ![6, 20, 4, 160, 256]⟩
abbrev S6x20x4x64x256 : Shape := ⟨5, ![6, 20, 4, 64, 256]⟩
abbrev S6x20x256 : Shape := ⟨3, ![6, 20, 256]⟩
abbrev S6x256x20 : Shape := ⟨3, ![6, 256, 20]⟩
abbrev S20 : Shape := ⟨1, ![20]⟩
abbrev S6x20x64x160 : Shape := ⟨4, ![6, 20, 64, 160]⟩
abbrev S20x1 : Shape := ⟨2, ![20, 1]⟩
abbrev S1x1x4x160x256 : Shape := ⟨5, ![1, 1, 4, 160, 256]⟩
abbrev S1x1x4x64x256 : Shape := ⟨5, ![1, 1, 4, 64, 256]⟩
abbrev S1x20x256 : Shape := ⟨3, ![1, 20, 256]⟩
abbrev S1x1x64x160 : Shape := ⟨4, ![1, 1, 64, 160]⟩
abbrev S2x20x128 : Shape := ⟨3, ![2, 20, 128]⟩
abbrev S128x128 : Shape := ⟨2, ![128, 128]⟩
abbrev S20x256 : Shape := ⟨2, ![20, 256]⟩
abbrev S1x128 : Shape := ⟨2, ![1, 128]⟩
abbrev S20x128 : Shape := ⟨2, ![20, 128]⟩
abbrev S1x20x128 : Shape := ⟨3, ![1, 20, 128]⟩
abbrev S64x160 : Shape := ⟨2, ![64, 160]⟩
abbrev S1x1x1x160x128 : Shape := ⟨5, ![1, 1, 1, 160, 128]⟩
abbrev S160x128 : Shape := ⟨2, ![160, 128]⟩
abbrev S1x1x1x64x128 : Shape := ⟨5, ![1, 1, 1, 64, 128]⟩
abbrev S64x128 : Shape := ⟨2, ![64, 128]⟩
abbrev S1x1x128 : Shape := ⟨3, ![1, 1, 128]⟩
abbrev S160x512 : Shape := ⟨2, ![160, 512]⟩
abbrev S64x512 : Shape := ⟨2, ![64, 512]⟩
abbrev S128x64 : Shape := ⟨2, ![128, 64]⟩
abbrev S6x128 : Shape := ⟨2, ![6, 128]⟩
abbrev S8x128 : Shape := ⟨2, ![8, 128]⟩
abbrev S128x8 : Shape := ⟨2, ![128, 8]⟩
abbrev S128x1 : Shape := ⟨2, ![128, 1]⟩
abbrev S128x512 : Shape := ⟨2, ![128, 512]⟩
abbrev S512x512 : Shape := ⟨2, ![512, 512]⟩
abbrev S1x512 : Shape := ⟨2, ![1, 512]⟩
abbrev S1x1 : Shape := ⟨2, ![1, 1]⟩

abbrev nBuf : Space → Nat
  | .hbm => 17
  | .vmem => 30
  | .smem => 0
  | _ => 0

abbrev bufTy : (tb : Table) → Fin (tcTables nBuf tb) → BufTy
  | .hbm, ⟨0, _⟩ => ⟨S6x20x4x160x256, .fp8e4m3⟩
  | .hbm, ⟨1, _⟩ => ⟨S6x20x4x64x256, .fp8e4m3⟩
  | .hbm, ⟨2, _⟩ => ⟨S6x20x4x64x256, .fp8e4m3⟩
  | .hbm, ⟨3, _⟩ => ⟨S6x20x256, .f32⟩
  | .hbm, ⟨4, _⟩ => ⟨S6x20x256, .f32⟩
  | .hbm, ⟨5, _⟩ => ⟨S6x20x256, .f32⟩
  | .hbm, ⟨6, _⟩ => ⟨S6x256x20, .f32⟩
  | .hbm, ⟨7, _⟩ => ⟨S20, .f32⟩
  | .hbm, ⟨8, _⟩ => ⟨S20, .f32⟩
  | .hbm, ⟨9, _⟩ => ⟨S6x256x20, .f32⟩
  | .hbm, ⟨10, _⟩ => ⟨S6x20x64x160, .f32⟩
  | .hbm, ⟨11, _⟩ => ⟨S6x20x256, .f32⟩
  | .hbm, ⟨12, _⟩ => ⟨S20x1, .f32⟩
  | .hbm, ⟨13, _⟩ => ⟨S20x1, .f32⟩
  | .hbm, ⟨14, _⟩ => ⟨S6x20x256, .f32⟩
  | .hbm, ⟨15, _⟩ => ⟨S6x20x4x160x256, .bf16⟩
  | .hbm, ⟨16, _⟩ => ⟨S6x20x64x160, .f32⟩
  | .local _ .vmem, ⟨0, _⟩ => ⟨S1x1x4x160x256, .fp8e4m3⟩
  | .local _ .vmem, ⟨1, _⟩ => ⟨S1x1x4x160x256, .fp8e4m3⟩
  | .local _ .vmem, ⟨2, _⟩ => ⟨S1x1x4x64x256, .fp8e4m3⟩
  | .local _ .vmem, ⟨3, _⟩ => ⟨S1x1x4x64x256, .fp8e4m3⟩
  | .local _ .vmem, ⟨4, _⟩ => ⟨S1x1x4x64x256, .fp8e4m3⟩
  | .local _ .vmem, ⟨5, _⟩ => ⟨S1x1x4x64x256, .fp8e4m3⟩
  | .local _ .vmem, ⟨6, _⟩ => ⟨S1x20x256, .f32⟩
  | .local _ .vmem, ⟨7, _⟩ => ⟨S1x20x256, .f32⟩
  | .local _ .vmem, ⟨8, _⟩ => ⟨S1x20x256, .f32⟩
  | .local _ .vmem, ⟨9, _⟩ => ⟨S1x20x256, .f32⟩
  | .local _ .vmem, ⟨10, _⟩ => ⟨S1x20x256, .f32⟩
  | .local _ .vmem, ⟨11, _⟩ => ⟨S1x20x256, .f32⟩
  | .local _ .vmem, ⟨12, _⟩ => ⟨S1x20x256, .f32⟩
  | .local _ .vmem, ⟨13, _⟩ => ⟨S1x20x256, .f32⟩
  | .local _ .vmem, ⟨14, _⟩ => ⟨S20x1, .f32⟩
  | .local _ .vmem, ⟨15, _⟩ => ⟨S20x1, .f32⟩
  | .local _ .vmem, ⟨16, _⟩ => ⟨S1x20x256, .f32⟩
  | .local _ .vmem, ⟨17, _⟩ => ⟨S1x20x256, .f32⟩
  | .local _ .vmem, ⟨18, _⟩ => ⟨S1x1x64x160, .f32⟩
  | .local _ .vmem, ⟨19, _⟩ => ⟨S1x1x64x160, .f32⟩
  | .local _ .vmem, ⟨20, _⟩ => ⟨S1x1x4x160x256, .bf16⟩
  | .local _ .vmem, ⟨21, _⟩ => ⟨S1x1x4x160x256, .bf16⟩
  | .local _ .vmem, ⟨22, _⟩ => ⟨S1x1x64x160, .f32⟩
  | .local _ .vmem, ⟨23, _⟩ => ⟨S1x1x64x160, .f32⟩
  | .local _ .vmem, ⟨24, _⟩ => ⟨S2x20x128, .f32⟩
  | .local _ .vmem, ⟨25, _⟩ => ⟨S2x20x128, .f32⟩
  | .local _ .vmem, ⟨26, _⟩ => ⟨S2x20x128, .f32⟩
  | .local _ .vmem, ⟨27, _⟩ => ⟨S2x20x128, .f32⟩
  | .local _ .vmem, ⟨28, _⟩ => ⟨S2x20x128, .f32⟩
  | .local _ .vmem, ⟨29, _⟩ => ⟨S2x20x128, .f32⟩
  | _, _ => ⟨S6x20x4x160x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![6, 20], ![false, false]⟩

def k0_off1 (i : grid0.Coords) : Fin 3 → Nat :=
  let c0_61 : Index := 0#32
  let arg1 : BitVec 32 := BitVec.ofNat 32 (i 1).val
  let v35 : Index := Scalar.indexCast arg1
  let c0_62 : Index := 0#32
  ![0, v35.toNat, 0]
def k0_off2 (i : grid0.Coords) : Fin 3 → Nat :=
  let c0_67 : Index := 0#32
  let arg1 : BitVec 32 := BitVec.ofNat 32 (i 1).val
  let v67 : Index := Scalar.indexCast arg1
  let c0_68 : Index := 0#32
  ![0, v67.toNat, 0]
def k0_off3 (i : grid0.Coords) : Fin 3 → Nat :=
  let c0_167 : Index := 0#32
  let arg1 : BitVec 32 := BitVec.ofNat 32 (i 1).val
  let v224 : Index := Scalar.indexCast arg1
  let c128_168 : Index := 128#32
  ![0, v224.toNat, 128]
def k0_off4 (i : grid0.Coords) : Fin 3 → Nat :=
  let c1_173 : Index := 1#32
  let arg1 : BitVec 32 := BitVec.ofNat 32 (i 1).val
  let v256 : Index := Scalar.indexCast arg1
  let c0_174 : Index := 0#32
  ![1, v256.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4x160x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x64x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4x64x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x20x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x20x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x20x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x20x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S20x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S20x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x20x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x64x160 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x4x160x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x64x160 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S6x20x4x160x256 : Shape := ⟨5, ![6, 20, 4, 160, 256]⟩
abbrev S6x20x4x64x256 : Shape := ⟨5, ![6, 20, 4, 64, 256]⟩
abbrev S6x20x256 : Shape := ⟨3, ![6, 20, 256]⟩
abbrev S6x256x20 : Shape := ⟨3, ![6, 256, 20]⟩
abbrev S20 : Shape := ⟨1, ![20]⟩
abbrev S6x20x64x160 : Shape := ⟨4, ![6, 20, 64, 160]⟩
abbrev S1x1x20 : Shape := ⟨3, ![1, 1, 20]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S6x20x4x160x128 : Shape := ⟨5, ![6, 20, 4, 160, 128]⟩
abbrev S6x20x4x64x128 : Shape := ⟨5, ![6, 20, 4, 64, 128]⟩
abbrev S6x20x128 : Shape := ⟨3, ![6, 20, 128]⟩
abbrev S6x20x127 : Shape := ⟨3, ![6, 20, 127]⟩
abbrev S6x20x1 : Shape := ⟨3, ![6, 20, 1]⟩
abbrev S6x20x1x128 : Shape := ⟨4, ![6, 20, 1, 128]⟩
abbrev S6x20x128x128 : Shape := ⟨4, ![6, 20, 128, 128]⟩
abbrev S6x20x128x1 : Shape := ⟨4, ![6, 20, 128, 1]⟩
abbrev S1x1x128x128 : Shape := ⟨4, ![1, 1, 128, 128]⟩
abbrev S6x20x4x128x4x128 : Shape := ⟨6, ![6, 20, 4, 128, 4, 128]⟩
abbrev S6x20x1x128x1x128 : Shape := ⟨6, ![6, 20, 1, 128, 1, 128]⟩
abbrev S6x20x4x4x128x160 : Shape := ⟨6, ![6, 20, 4, 4, 128, 160]⟩
abbrev S6x20x4x128x160 : Shape := ⟨5, ![6, 20, 4, 128, 160]⟩
abbrev S6x20x1x128x1 : Shape := ⟨5, ![6, 20, 1, 128, 1]⟩
abbrev S6x20x1x1x128 : Shape := ⟨5, ![6, 20, 1, 1, 128]⟩
abbrev S6x20x4x64x160 : Shape := ⟨5, ![6, 20, 4, 64, 160]⟩
abbrev S6x20 : Shape := ⟨2, ![6, 20]⟩
abbrev S6x20x1x1 : Shape := ⟨4, ![6, 20, 1, 1]⟩
abbrev S6x20x4x64x1 : Shape := ⟨5, ![6, 20, 4, 64, 1]⟩
abbrev S6x20x4x64 : Shape := ⟨4, ![6, 20, 4, 64]⟩
abbrev S6x20x4x160x1 : Shape := ⟨5, ![6, 20, 4, 160, 1]⟩
abbrev S6x20x4x160 : Shape := ⟨4, ![6, 20, 4, 160]⟩

abbrev nBuf : Space → Nat
  | .hbm => 266
  | .vmem => 6
  | .smem => 0
  | _ => 0

abbrev hbmTy0_0 (i : Nat) : BufTy := match i % 128 with
  | 0 => ⟨S6x20x4x160x256, .fp8e4m3⟩
  | 1 => ⟨S6x20x4x64x256, .fp8e4m3⟩
  | 2 => ⟨S6x20x4x64x256, .fp8e4m3⟩
  | 3 => ⟨S6x20x256, .f32⟩
  | 4 => ⟨S6x20x256, .f32⟩
  | 5 => ⟨S6x20x256, .f32⟩
  | 6 => ⟨S6x256x20, .f32⟩
  | 7 => ⟨S20, .f32⟩
  | 8 => ⟨S20, .f32⟩
  | 9 => ⟨S6x256x20, .f32⟩
  | 10 => ⟨S6x20x64x160, .f32⟩
  | 11 => ⟨S6x20x4x160x256, .bf16⟩
  | 12 => ⟨S6x20x4x64x256, .bf16⟩
  | 13 => ⟨S6x20x4x64x256, .bf16⟩
  | 14 => ⟨S1x1x20, .f32⟩
  | 15 => ⟨S6x256x20, .f32⟩
  | 16 => ⟨S6x256x20, .f32⟩
  | 17 => ⟨S_, .f32⟩
  | 18 => ⟨S6x256x20, .f32⟩
  | 19 => ⟨S6x256x20, .f32⟩
  | 20 => ⟨S6x256x20, .f32⟩
  | 21 => ⟨S6x256x20, .f32⟩
  | 22 => ⟨S6x256x20, .i1⟩
  | 23 => ⟨S6x256x20, .f32⟩
  | 24 => ⟨S6x256x20, .f32⟩
  | 25 => ⟨S6x256x20, .f32⟩
  | 26 => ⟨S6x256x20, .f32⟩
  | 27 => ⟨S6x256x20, .f32⟩
  | 28 => ⟨S6x256x20, .f32⟩
  | 29 => ⟨S6x256x20, .f32⟩
  | 30 => ⟨S6x256x20, .f32⟩
  | 31 => ⟨S6x256x20, .f32⟩
  | 32 => ⟨S6x256x20, .f32⟩
  | 33 => ⟨S_, .f32⟩
  | 34 => ⟨S6x256x20, .f32⟩
  | 35 => ⟨S6x256x20, .f32⟩
  | 36 => ⟨S_, .f32⟩
  | 37 => ⟨S6x256x20, .f32⟩
  | 38 => ⟨S6x256x20, .f32⟩
  | 39 => ⟨S20, .f32⟩
  | 40 => ⟨S20, .f32⟩
  | 41 => ⟨S1x1x20, .f32⟩
  | 42 => ⟨S6x256x20, .f32⟩
  | 43 => ⟨S6x256x20, .f32⟩
  | 44 => ⟨S6x20x256, .f32⟩
  | 45 => ⟨S6x256x20, .f32⟩
  | 46 => ⟨S6x20x256, .f32⟩
  | 47 => ⟨S_, .f32⟩
  | 48 => ⟨S6x256x20, .f32⟩
  | 49 => ⟨S6x256x20, .f32⟩
  | 50 => ⟨S6x256x20, .f32⟩
  | 51 => ⟨S6x20x256, .f32⟩
  | 52 => ⟨S128, .i32⟩
  | 53 => ⟨S128x1, .i32⟩
  | 54 => ⟨S128, .i32⟩
  | 55 => ⟨S1x128, .i32⟩
  | 56 => ⟨S128x128, .i32⟩
  | 57 => ⟨S128x128, .i32⟩
  | 58 => ⟨S128x128, .i1⟩
  | 59 => ⟨S128x128, .i32⟩
  | 60 => ⟨S128x128, .i32⟩
  | 61 => ⟨S128x128, .i1⟩
  | 62 => ⟨S6x20x4x160x128, .bf16⟩
  | 63 => ⟨S6x20x4x64x128, .bf16⟩
  | 64 => ⟨S6x20x4x64x128, .bf16⟩
  | 65 => ⟨S6x20x128, .f32⟩
  | 66 => ⟨S6x20x128, .f32⟩
  | 67 => ⟨S6x20x128, .f32⟩
  | 68 => ⟨S6x20x128, .f32⟩
  | 69 => ⟨S6x20x128, .f32⟩
  | 70 => ⟨S6x20x127, .f32⟩
  | 71 => ⟨S6x20x1, .f32⟩
  | 72 => ⟨S6x20x128, .f32⟩
  | 73 => ⟨S6x20x128, .f32⟩
  | 74 => ⟨S6x20x1x128, .f32⟩
  | 75 => ⟨S_, .f32⟩
  | 76 => ⟨S_, .f32⟩
  | 77 => ⟨S6x20x128x128, .i1⟩
  | 78 => ⟨S6x20x128x128, .f32⟩
  | 79 => ⟨S6x20x128x128, .f32⟩
  | 80 => ⟨S6x20x128x128, .f32⟩
  | 81 => ⟨S_, .f32⟩
  | 82 => ⟨S6x20x128, .f32⟩
  | 83 => ⟨S6x20x128x1, .f32⟩
  | 84 => ⟨S6x20x1x128, .f32⟩
  | 85 => ⟨S6x20x128x128, .f32⟩
  | 86 => ⟨S6x20x128x128, .f32⟩
  | 87 => ⟨S6x20x128x128, .f32⟩
  | 88 => ⟨S6x20x128x128, .f32⟩
  | 89 => ⟨S_, .f32⟩
  | 90 => ⟨S_, .f32⟩
  | 91 => ⟨S6x20x128x128, .i1⟩
  | 92 => ⟨S6x20x128x128, .f32⟩
  | 93 => ⟨S6x20x128x128, .f32⟩
  | 94 => ⟨S6x20x1x128, .f32⟩
  | 95 => ⟨S128x128, .f32⟩
  | 96 => ⟨S1x1x128x128, .f32⟩
  | 97 => ⟨S6x20x128x128, .f32⟩
  | 98 => ⟨S6x20x128x128, .f32⟩
  | 99 => ⟨S6x20x128x128, .f32⟩
  | 100 => ⟨S6x20x1x128, .f32⟩
  | 101 => ⟨S128x128, .f32⟩
  | 102 => ⟨S1x1x128x128, .f32⟩
  | 103 => ⟨S6x20x128x128, .f32⟩
  | 104 => ⟨S6x20x128x128, .f32⟩
  | 105 => ⟨S6x20x128x128, .f32⟩
  | 106 => ⟨S6x20x128x128, .f32⟩
  | 107 => ⟨S6x20x128x128, .f32⟩
  | 108 => ⟨S6x20x4x128x4x128, .f32⟩
  | 109 => ⟨S6x20x128x1, .f32⟩
  | 110 => ⟨S6x20x1x128, .f32⟩
  | 111 => ⟨S6x20x128x128, .f32⟩
  | 112 => ⟨S6x20x128x128, .f32⟩
  | 113 => ⟨S6x20x128x128, .f32⟩
  | 114 => ⟨S6x20x128x128, .f32⟩
  | 115 => ⟨S6x20x1x128, .f32⟩
  | 116 => ⟨S6x20x128x128, .f32⟩
  | 117 => ⟨S6x20x128x128, .f32⟩
  | 118 => ⟨S6x20x1x128x1x128, .f32⟩
  | 119 => ⟨S6x20x4x128x4x128, .f32⟩
  | 120 => ⟨S6x20x4x128x4x128, .f32⟩
  | 121 => ⟨S6x20x4x128x4x128, .bf16⟩
  | 122 => ⟨S6x20x4x4x128x160, .f32⟩
  | 123 => ⟨S_, .f32⟩
  | 124 => ⟨S6x20x4x128x160, .f32⟩
  | 125 => ⟨S6x20x128, .f32⟩
  | 126 => ⟨S6x20x128, .f32⟩
  | 127 => ⟨S6x20x1x128x1, .f32⟩
  | _ => ⟨S6x20x4x160x256, .fp8e4m3⟩

abbrev hbmTy0_1 (i : Nat) : BufTy := match i % 128 with
  | 0 => ⟨S6x20x64x160, .bf16⟩
  | 1 => ⟨S6x20x4x128x160, .f32⟩
  | 2 => ⟨S6x20x4x128x160, .f32⟩
  | 3 => ⟨S6x20x4x128x160, .f32⟩
  | 4 => ⟨S6x20x4x128x160, .f32⟩
  | 5 => ⟨S6x20x4x128x160, .bf16⟩
  | 6 => ⟨S6x20x4x160x128, .bf16⟩
  | 7 => ⟨S6x20x1x128, .f32⟩
  | 8 => ⟨S6x20x128, .f32⟩
  | 9 => ⟨S6x20x128, .f32⟩
  | 10 => ⟨S6x20x128, .f32⟩
  | 11 => ⟨S6x20x1x1x128, .f32⟩
  | 12 => ⟨S6x20x4x160x128, .f32⟩
  | 13 => ⟨S6x20x4x160x128, .f32⟩
  | 14 => ⟨S6x20x4x160x128, .f32⟩
  | 15 => ⟨S6x20x4x160x128, .bf16⟩
  | 16 => ⟨S6x20x4x64x160, .f32⟩
  | 17 => ⟨S_, .f32⟩
  | 18 => ⟨S6x20x64x160, .f32⟩
  | 19 => ⟨S6x20x1, .f32⟩
  | 20 => ⟨S6x20, .f32⟩
  | 21 => ⟨S6x20, .f32⟩
  | 22 => ⟨S6x20x1x1, .f32⟩
  | 23 => ⟨S6x20x64x160, .f32⟩
  | 24 => ⟨S6x20x64x160, .f32⟩
  | 25 => ⟨S6x20x64x160, .f32⟩
  | 26 => ⟨S6x20x1, .f32⟩
  | 27 => ⟨S6x20, .f32⟩
  | 28 => ⟨S6x20x1, .f32⟩
  | 29 => ⟨S6x20, .f32⟩
  | 30 => ⟨S6x20, .f32⟩
  | 31 => ⟨S6x20x1x1, .f32⟩
  | 32 => ⟨S6x20x4x64x1, .bf16⟩
  | 33 => ⟨S6x20x4x64, .bf16⟩
  | 34 => ⟨S6x20x4x160x1, .bf16⟩
  | 35 => ⟨S6x20x4x160, .bf16⟩
  | 36 => ⟨S6x20x64x160, .f32⟩
  | 37 => ⟨S6x20x64x160, .f32⟩
  | 38 => ⟨S6x20x64x160, .f32⟩
  | 39 => ⟨S6x20x1, .f32⟩
  | 40 => ⟨S6x20, .f32⟩
  | 41 => ⟨S6x20x1x1, .f32⟩
  | 42 => ⟨S6x20x64x160, .f32⟩
  | 43 => ⟨S6x20x64x160, .f32⟩
  | 44 => ⟨S6x20x64x160, .f32⟩
  | 45 => ⟨S6x20x4x160x128, .bf16⟩
  | 46 => ⟨S6x20x4x64x128, .bf16⟩
  | 47 => ⟨S6x20x4x64x128, .bf16⟩
  | 48 => ⟨S6x20x128, .f32⟩
  | 49 => ⟨S6x20x128, .f32⟩
  | 50 => ⟨S6x20x128, .f32⟩
  | 51 => ⟨S6x20x128, .f32⟩
  | 52 => ⟨S6x20x128, .f32⟩
  | 53 => ⟨S6x20x127, .f32⟩
  | 54 => ⟨S6x20x1, .f32⟩
  | 55 => ⟨S6x20x128, .f32⟩
  | 56 => ⟨S6x20x128, .f32⟩
  | 57 => ⟨S6x20x1x128, .f32⟩
  | 58 => ⟨S_, .f32⟩
  | 59 => ⟨S_, .f32⟩
  | 60 => ⟨S6x20x128x128, .i1⟩
  | 61 => ⟨S6x20x128x128, .f32⟩
  | 62 => ⟨S6x20x128x128, .f32⟩
  | 63 => ⟨S6x20x128x128, .f32⟩
  | 64 => ⟨S_, .f32⟩
  | 65 => ⟨S6x20x128, .f32⟩
  | 66 => ⟨S6x20x128x1, .f32⟩
  | 67 => ⟨S6x20x1x128, .f32⟩
  | 68 => ⟨S6x20x128x128, .f32⟩
  | 69 => ⟨S6x20x128x128, .f32⟩
  | 70 => ⟨S6x20x128x128, .f32⟩
  | 71 => ⟨S6x20x128x128, .f32⟩
  | 72 => ⟨S_, .f32⟩
  | 73 => ⟨S_, .f32⟩
  | 74 => ⟨S6x20x128x128, .i1⟩
  | 75 => ⟨S6x20x128x128, .f32⟩
  | 76 => ⟨S6x20x128x128, .f32⟩
  | 77 => ⟨S6x20x1x128, .f32⟩
  | 78 => ⟨S128x128, .f32⟩
  | 79 => ⟨S1x1x128x128, .f32⟩
  | 80 => ⟨S6x20x128x128, .f32⟩
  | 81 => ⟨S6x20x128x128, .f32⟩
  | 82 => ⟨S6x20x128x128, .f32⟩
  | 83 => ⟨S6x20x1x128, .f32⟩
  | 84 => ⟨S128x128, .f32⟩
  | 85 => ⟨S1x1x128x128, .f32⟩
  | 86 => ⟨S6x20x128x128, .f32⟩
  | 87 => ⟨S6x20x128x128, .f32⟩
  | 88 => ⟨S6x20x128x128, .f32⟩
  | 89 => ⟨S6x20x128x128, .f32⟩
  | 90 => ⟨S6x20x128x128, .f32⟩
  | 91 => ⟨S6x20x4x128x4x128, .f32⟩
  | 92 => ⟨S6x20x128x1, .f32⟩
  | 93 => ⟨S6x20x1x128, .f32⟩
  | 94 => ⟨S6x20x128x128, .f32⟩
  | 95 => ⟨S6x20x128x128, .f32⟩
  | 96 => ⟨S6x20x128x128, .f32⟩
  | 97 => ⟨S6x20x128x128, .f32⟩
  | 98 => ⟨S6x20x1x128, .f32⟩
  | 99 => ⟨S6x20x128x128, .f32⟩
  | 100 => ⟨S6x20x128x128, .f32⟩
  | 101 => ⟨S6x20x1x128x1x128, .f32⟩
  | 102 => ⟨S6x20x4x128x4x128, .f32⟩
  | 103 => ⟨S6x20x4x128x4x128, .f32⟩
  | 104 => ⟨S6x20x4x128x4x128, .bf16⟩
  | 105 => ⟨S6x20x4x4x128x160, .f32⟩
  | 106 => ⟨S_, .f32⟩
  | 107 => ⟨S6x20x4x128x160, .f32⟩
  | 108 => ⟨S6x20x128, .f32⟩
  | 109 => ⟨S6x20x128, .f32⟩
  | 110 => ⟨S6x20x1x128x1, .f32⟩
  | 111 => ⟨S6x20x64x160, .bf16⟩
  | 112 => ⟨S6x20x4x128x160, .f32⟩
  | 113 => ⟨S6x20x4x128x160, .f32⟩
  | 114 => ⟨S6x20x4x128x160, .f32⟩
  | 115 => ⟨S6x20x4x128x160, .f32⟩
  | 116 => ⟨S6x20x4x128x160, .bf16⟩
  | 117 => ⟨S6x20x4x160x128, .bf16⟩
  | 118 => ⟨S6x20x1x128, .f32⟩
  | 119 => ⟨S6x20x128, .f32⟩
  | 120 => ⟨S6x20x128, .f32⟩
  | 121 => ⟨S6x20x128, .f32⟩
  | 122 => ⟨S6x20x1x1x128, .f32⟩
  | 123 => ⟨S6x20x4x160x128, .f32⟩
  | 124 => ⟨S6x20x4x160x128, .f32⟩
  | 125 => ⟨S6x20x4x160x128, .f32⟩
  | 126 => ⟨S6x20x4x160x128, .bf16⟩
  | 127 => ⟨S6x20x4x64x160, .f32⟩
  | _ => ⟨S6x20x4x160x256, .fp8e4m3⟩

abbrev hbmTy0_2 (i : Nat) : BufTy := match i % 128 with
  | 0 => ⟨S_, .f32⟩
  | 1 => ⟨S6x20x64x160, .f32⟩
  | 2 => ⟨S6x20x1, .f32⟩
  | 3 => ⟨S6x20, .f32⟩
  | 4 => ⟨S6x20, .f32⟩
  | 5 => ⟨S6x20x1x1, .f32⟩
  | 6 => ⟨S6x20x64x160, .f32⟩
  | 7 => ⟨S6x20x64x160, .f32⟩
  | 8 => ⟨S6x20x64x160, .f32⟩
  | 9 => ⟨S6x20x4x160x256, .bf16⟩
  | _ => ⟨S6x20x4x160x256, .fp8e4m3⟩

abbrev hbmTy (i : Nat) : BufTy := match i / 128 with
  | 0 => hbmTy0_0 i
  | 1 => hbmTy0_1 i
  | 2 => hbmTy0_2 i
  | _ => ⟨S6x20x4x160x256, .fp8e4m3⟩

abbrev bufTy : (tb : Table) → Fin (tcTables nBuf tb) → BufTy
  | .hbm, ⟨i, _⟩ => hbmTy i
  | .local _ .vmem, ⟨0, _⟩ => ⟨S6x20x4x160x256, .fp8e4m3⟩
  | .local _ .vmem, ⟨1, _⟩ => ⟨S6x20x4x64x256, .fp8e4m3⟩
  | .local _ .vmem, ⟨2, _⟩ => ⟨S6x20x4x64x256, .fp8e4m3⟩
  | .local _ .vmem, ⟨3, _⟩ => ⟨S6x20x4x160x256, .bf16⟩
  | .local _ .vmem, ⟨4, _⟩ => ⟨S6x20x4x64x256, .bf16⟩
  | .local _ .vmem, ⟨5, _⟩ => ⟨S6x20x4x64x256, .bf16⟩
  | _, _ => ⟨S6x20x4x160x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call1_v0 : Ref sig .tc := ⟨.hbm, 70, rfl⟩
abbrev main_call1_v1 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_2 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_v44 : Ref sig .tc := ⟨.hbm, 80, rfl⟩
abbrev main_cst_3 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_5 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_6 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_call4_v0 : Ref sig .tc := ⟨.hbm, 181, rfl⟩
abbrev main_call4_v1 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_7 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_call5_v3 : Ref sig .tc := ⟨.hbm, 190, rfl⟩
abbrev main_v141 : Ref sig .tc := ⟨.hbm, 191, rfl⟩
abbrev main_cst_8 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_9 : Ref sig .tc := ⟨.hbm, 200, rfl⟩
abbrev main_call6_v0 : Ref sig .tc := ⟨.hbm, 201, rfl⟩
abbrev main_call6_v1 : Ref sig .tc := ⟨.hbm, 202, rfl⟩
abbrev main_call6_v2 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_10 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_cst_11 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x20x4x160x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x20x4x64x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x20x4x64x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x20x4x160x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x20x4x64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x20x4x64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scan.Reg.lean ====
module

public import proofs.«01_k».proof.Proof.Gen.ReferenceIdeal.Run
public import proofs.«01_k».proof.Proof.Gen.ReferenceIdeal.Points
public import Idealize.ShloMosaic.Lib.Pipeline.Value
public import Idealize.ShloMosaic.Lib.Pointwise

@[expose] public section
set_option maxRecDepth 16384

noncomputable section
open Idealize.ShloMosaic Idealize.ShloMosaic.TcCoe
namespace Cert.ReferenceIdeal.Scan
open Cert.ReferenceIdeal Cert.ReferenceIdeal.Gen Cert.ReferenceIdeal.Value

variable (m : (ℓ : Loc nD τ sig) → Buf (Elt Ideal) ℓ)

/-- An index of a whole window's block is the same index of the array. -/
theorem emb_at {e s : Nat} (y : Nat) (h : e = 0 * s + 1 * y) : e = y := by omega

theorem emb0 (t : Fin cfg0.N) (y : S6x20x4x160x256.Idx) : (((cfg0.win 0).blk t).view.emb y : S6x20x4x160x256.Idx) = y := by
  funext a; apply Fin.ext
  match a with
  | ⟨0, _⟩ => exact emb_at (y 0).val rfl
  | ⟨1, _⟩ => exact emb_at (y 1).val rfl
  | ⟨2, _⟩ => exact emb_at (y 2).val rfl
  | ⟨3, _⟩ => exact emb_at (y 3).val rfl
  | ⟨4, _⟩ => exact emb_at (y 4).val rfl

theorem emb3 (t : Fin cfg0.N) (y : S6x20x4x160x256.Idx) : (((cfg0.win 3).blk t).view.emb y : S6x20x4x160x256.Idx) = y := by
  funext a; apply Fin.ext
  match a with
  | ⟨0, _⟩ => exact emb_at (y 0).val rfl
  | ⟨1, _⟩ => exact emb_at (y 1).val rfl
  | ⟨2, _⟩ => exact emb_at (y 2).val rfl
  | ⟨3, _⟩ => exact emb_at (y 3).val rfl
  | ⟨4, _⟩ => exact emb_at (y 4).val rfl

theorem iblk0 (c : Dev nD) (t : Fin cfg0.N) : (iblk m c 0 t : Vec Ideal S6x20x4x160x256 .fp8e4m3) = (m (c, main_arg0) : Vec Ideal S6x20x4x160x256 .fp8e4m3) := by
  funext y
  show (V m c main_arg0 : Vec Ideal S6x20x4x160x256 .fp8e4m3) (((cfg0.win 0).blk t).view.emb y) = _
  rw [emb0]
  exact congrFun (V_main_arg0 m c) y

theorem out3 (x0 : Vec Ideal S6x20x4x160x256 .fp8e4m3) (x1 x2 : Vec Ideal S6x20x4x64x256 .fp8e4m3) (y : S6x20x4x160x256.Idx) :
    (out0_3 x0 x1 x2 : Vec Ideal S6x20x4x160x256 .bf16) y = x0 y := by
  unfold out0_3
  rw [View.canon_unit_zero (by decide), View.ld_unit_zero (by decide)]
  rfl

theorem mem3 (t : Fin cfg0.N) (i : S6x20x4x160x256.Idx) : i ∈ ((cfg0.win 3).blk t).view.set := by
  have e := View.emb_mem_set ((cfg0.win 3).blk t).view i
  rw [emb3 t i] at e
  exact e

/-- What the region leaves in its output 0 is argument 0, value by value. -/
theorem reg0 (c : Dev nD) : (reg_main_v0_0 m c : Vec Ideal S6x20x4x160x256 .bf16) = (m (c, main_arg0) : Vec Ideal S6x20x4x160x256 .fp8e4m3) :=
  (dats m 0 c).arrAt_eq_of_cover 3 (fun i => (m (c, main_arg0) : Vec Ideal S6x20x4x160x256 .fp8e4m3) i) (fun t hf => by
    show (cfg0.win 3).cut (grid0.coords t) ((dats m 0 c).after 3 t) = _
    rw [after0_3]
    funext y
    show (out0_3 (iblk m c 0 t) (iblk m c 1 t) (iblk m c 2 t) : Vec Ideal S6x20x4x160x256 .bf16) y = (m (c, main_arg0) : Vec Ideal S6x20x4x160x256 .fp8e4m3) (((cfg0.win 3).blk t).view.emb y)
    rw [out3, emb3 t y]
    exact congrFun (iblk0 m c t) y) (fun i => ⟨⟨0, by decide⟩, flush0_3 _, mem3 _ i⟩)

theorem emb1 (t : Fin cfg0.N) (y : S6x20x4x64x256.Idx) : (((cfg0.win 1).blk t).view.emb y : S6x20x4x64x256.Idx) = y := by
  funext a; apply Fin.ext
  match a with
  | ⟨0, _⟩ => exact emb_at (y 0).val rfl
  | ⟨1, _⟩ => exact emb_at (y 1).val rfl
  | ⟨2, _⟩ => exact emb_at (y 2).val rfl
  | ⟨3, _⟩ => exact emb_at (y 3).val rfl
  | ⟨4, _⟩ => exact emb_at (y 4).val rfl

theorem emb4 (t : Fin cfg0.N) (y : S6x20x4x64x256.Idx) : (((cfg0.win 4).blk t).view.emb y : S6x20x4x64x256.Idx) = y := by
  funext a; apply Fin.ext
  match a with
  | ⟨0, _⟩ => exact emb_at (y 0).val rfl
  | ⟨1, _⟩ => exact emb_at (y 1).val rfl
  | ⟨2, _⟩ => exact emb_at (y 2).val rfl
  | ⟨3, _⟩ => exact emb_at (y 3).val rfl
  | ⟨4, _⟩ => exact emb_at (y 4).val rfl

theorem iblk1 (c : Dev nD) (t : Fin cfg0.N) : (iblk m c 1 t : Vec Ideal S6x20x4x64x256 .fp8e4m3) = (m (c, main_arg1) : Vec Ideal S6x20x4x64x256 .fp8e4m3) := by
  funext y
  show (V m c main_arg1 : Vec Ideal S6x20x4x64x256 .fp8e4m3) (((cfg0.win 1).blk t).view.emb y) = _
  rw [emb1]
  exact congrFun (V_main_arg1 m c) y

theorem out4 (x0 : Vec Ideal S6x20x4x160x256 .fp8e4m3) (x1 x2 : Vec Ideal S6x20x4x64x256 .fp8e4m3) (y : S6x20x4x64x256.Idx) :
    (out0_4 x0 x1 x2 : Vec Ideal S6x20x4x64x256 .bf16) y = x1 y := by
  unfold out0_4
  rw [View.canon_unit_zero (by decide), View.ld_unit_zero (by decide)]
  rfl

theorem mem4 (t : Fin cfg0.N) (i : S6x20x4x64x256.Idx) : i ∈ ((cfg0.win 4).blk t).view.set := by
  have e := View.emb_mem_set ((cfg0.win 4).blk t).view i
  rw [emb4 t i] at e
  exact e

/-- What the region leaves in its output 1 is argument 1, value by value. -/
theorem reg1 (c : Dev nD) : (reg_main_v0_1 m c : Vec Ideal S6x20x4x64x256 .bf16) = (m (c, main_arg1) : Vec Ideal S6x20x4x64x256 .fp8e4m3) :=
  (dats m 0 c).arrAt_eq_of_cover 4 (fun i => (m (c, main_arg1) : Vec Ideal S6x20x4x64x256 .fp8e4m3) i) (fun t hf => by
    show (cfg0.win 4).cut (grid0.coords t) ((dats m 0 c).after 4 t) = _
    rw [after0_4]
    funext y
    show (out0_4 (iblk m c 0 t) (iblk m c 1 t) (iblk m c 2 t) : Vec Ideal S6x20x4x64x256 .bf16) y = (m (c, main_arg1) : Vec Ideal S6x20x4x64x256 .fp8e4m3) (((cfg0.win 4).blk t).view.emb y)
    rw [out4, emb4 t y]
    exact congrFun (iblk1 m c t) y) (fun i => ⟨⟨0, by decide⟩, flush0_4 _, mem4 _ i⟩)

theorem emb2 (t : Fin cfg0.N) (y : S6x20x4x64x256.Idx) : (((cfg0.win 2).blk t).view.emb y : S6x20x4x64x256.Idx) = y := by
  funext a; apply Fin.ext
  match a with
  | ⟨0, _⟩ => exact emb_at (y 0).val rfl
  | ⟨1, _⟩ => exact emb_at (y 1).val rfl
  | ⟨2, _⟩ => exact emb_at (y 2).val rfl
  | ⟨3, _⟩ => exact emb_at (y 3).val rfl
  | ⟨4, _⟩ => exact emb_at (y 4).val rfl

theorem emb5 (t : Fin cfg0.N) (y : S6x20x4x64x256.Idx) : (((cfg0.win 5).blk t).view.emb y : S6x20x4x64x256.Idx) = y := by
  funext a; apply Fin.ext
  match a with
  | ⟨0, _⟩ => exact emb_at (y 0).val rfl
  | ⟨1, _⟩ => exact emb_at (y 1).val rfl
  | ⟨2, _⟩ => exact emb_at (y 2).val rfl
  | ⟨3, _⟩ => exact emb_at (y 3).val rfl
  | ⟨4, _⟩ => exact emb_at (y 4).val rfl

theorem iblk2 (c : Dev nD) (t : Fin cfg0.N) : (iblk m c 2 t : Vec Ideal S6x20x4x64x256 .fp8e4m3) = (m (c, main_arg2) : Vec Ideal S6x20x4x64x256 .fp8e4m3) := by
  funext y
  show (V m c main_arg2 : Vec Ideal S6x20x4x64x256 .fp8e4m3) (((cfg0.win 2).blk t).view.emb y) = _
  rw [emb2]
  exact congrFun (V_main_arg2 m c) y

theorem out5 (x0 : Vec Ideal S6x20x4x160x256 .fp8e4m3) (x1 x2 : Vec Ideal S6x20x4x64x256 .fp8e4m3) (y : S6x20x4x64x256.Idx) :
    (out0_5 x0 x1 x2 : Vec Ideal S6x20x4x64x256 .bf16) y = x2 y := by
  unfold out0_5
  rw [View.canon_unit_zero (by decide), View.ld_unit_zero (by decide)]
  rfl

theorem mem5 (t : Fin cfg0.N) (i : S6x20x4x64x256.Idx) : i ∈ ((cfg0.win 5).blk t).view.set := by
  have e := View.emb_mem_set ((cfg0.win 5).blk t).view i
  rw [emb5 t i] at e
  exact e

/-- What the region leaves in its output 2 is argument 2, value by value. -/
theorem reg2 (c : Dev nD) : (reg_main_v0_2 m c : Vec Ideal S6x20x4x64x256 .bf16) = (m (c, main_arg2) : Vec Ideal S6x20x4x64x256 .fp8e4m3) :=
  (dats m 0 c).arrAt_eq_of_cover 5 (fun i => (m (c, main_arg2) : Vec Ideal S6x20x4x64x256 .fp8e4m3) i) (fun t hf => by
    show (cfg0.win 5).cut (grid0.coords t) ((dats m 0 c).after 5 t) = _
    rw [after0_5]
    funext y
    show (out0_5 (iblk m c 0 t) (iblk m c 1 t) (iblk m c 2 t) : Vec Ideal S6x20x4x64x256 .bf16) y = (m (c, main_arg2) : Vec Ideal S6x20x4x64x256 .fp8e4m3) (((cfg0.win 5).blk t).view.emb y)
    rw [out5, emb5 t y]
    exact congrFun (iblk2 m c t) y) (fun i => ⟨⟨0, by decide⟩, flush0_5 _, mem5 _ i⟩)

end Cert.ReferenceIdeal.Scan
-- ==== Proof.Scan.RefRun.lean ====
module

public import proofs.«01_k».proof.Proof.Scan.Reg
public import proofs.«01_k».proof.Proof.Gen.ReferenceIdeal.Read

@[expose] public section
set_option maxRecDepth 16384

noncomputable section
open Idealize.ShloMosaic Idealize.ShloMosaic.TcCoe
namespace Cert.ReferenceIdeal.Scan
open Cert.ReferenceIdeal Cert.ReferenceIdeal.Gen Cert.ReferenceIdeal.Value Cert.ReferenceIdeal.Read Idealize.SL.Sem

variable (m : (ℓ : Loc nD τ sig) → Buf (Elt Ideal) ℓ)

/-- The reference's first result, as a function of the arguments. -/
theorem first (c : Dev nD) : val_main_v208 (F := Ideal) (exitV m c (Proc.devRef .tc main_arg3)) (exitV m c (Proc.devRef .tc main_arg4)) (exitV m c (Proc.devRef .tc main_arg5)) (exitV m c (Proc.devRef .tc main_arg6)) (exitV m c (Proc.devRef .tc main_arg7)) (exitV m c (Proc.devRef .tc main_arg8)) (exitV m c (Proc.devRef .tc main_arg9)) (exitV m c (Proc.devRef .tc main_arg10)) (exitV m c (Proc.devRef .tc main_v0_0)) (exitV m c (Proc.devRef .tc main_v0_1)) (exitV m c (Proc.devRef .tc main_v0_2))
    = val_main_v208 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) (m ((c.tc : Thread nD τ).loc main_arg1)) (m ((c.tc : Thread nD τ).loc main_arg2)) := by
  rw [exit_main_arg3, exit_main_arg4, exit_main_arg5, exit_main_arg6, exit_main_arg7, exit_main_arg8, exit_main_arg9, exit_main_arg10, exit_main_v0_0, reg0, exit_main_v0_1, reg1, exit_main_v0_2, reg2]

/-- The reference's second result, as a function of the arguments. -/
theorem second (c : Dev nD) : val_main_v207 (F := Ideal) (exitV m c (Proc.devRef .tc main_arg3)) (exitV m c (Proc.devRef .tc main_arg4)) (exitV m c (Proc.devRef .tc main_arg6)) (exitV m c (Proc.devRef .tc main_arg7)) (exitV m c (Proc.devRef .tc main_arg8)) (exitV m c (Proc.devRef .tc main_arg9)) (exitV m c (Proc.devRef .tc main_arg10)) (exitV m c (Proc.devRef .tc main_v0_0)) (exitV m c (Proc.devRef .tc main_v0_1))
    = val_main_v207 (F := Ideal) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) (m ((c.tc : Thread nD τ).loc main_arg1)) := by
  rw [exit_main_arg3, exit_main_arg4, exit_main_arg6, exit_main_arg7, exit_main_arg8, exit_main_arg9, exit_main_arg10, exit_main_v0_0, reg0, exit_main_v0_1, reg1]

/-- The reference's run: both results as functions of the arguments, which it keeps. -/
theorem refRun (ρ : Dev nD → PrngReg) :
    θ_run defs (onTc (τ := τ) (main (F := Ideal))) ⟨m, fun _ => 0, ρ⟩ fun r => ∀ c : Dev nD,
      r.2.mem ((c.tc : Thread nD τ).loc main_v208) = val_main_v208 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) (m ((c.tc : Thread nD τ).loc main_arg1)) (m ((c.tc : Thread nD τ).loc main_arg2))
      ∧ r.2.mem ((c.tc : Thread nD τ).loc main_v207) = val_main_v207 (F := Ideal) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans ((val_main_v208_eq (exitV m c)).trans (first m c)),
    (h c).2.1.trans ((val_main_v207_eq (exitV m c)).trans (second m c)), (h c).2.2⟩) (Cert.ReferenceIdeal.Value.run m ρ)

end Cert.ReferenceIdeal.Scan
-- ==== Proof.Scan.Spec.lean ====
module

public import Idealize.ShloMosaic.Lib.Pointwise
public import Idealize.ShloMosaic.Lib.Tactic

@[expose] public section

noncomputable section
open Idealize.ShloMosaic Idealize.ShloMosaic.TcCoe
namespace Cert.Scan

/-- Column `j` of the first half of a line of 256. -/
def lo (j : Fin 128) : Fin 256 := ⟨j.val, by omega⟩
/-- Column `j` of the second half of a line of 256. -/
def hi (j : Fin 128) : Fin 256 := ⟨128 + j.val, by omega⟩

/-- The output of a chunk at stream `s`, channel `p`, column `i`. -/
def yc (x : Fin 4 → Fin 160 → Fin 128 → EReal) (b c : Fin 4 → Fin 64 → Fin 128 → EReal)
    (sx sb sc L gam gk : Fin 128 → EReal) (E : Fin 64 → Fin 160 → EReal)
    (s : Fin 4) (p : Fin 160) (i : Fin 128) : EReal :=
  (∑ r : Fin 4, ∑ j : Fin 128, x r p j *
    (if j.val ≤ i.val then (∑ n, b r n j * c s n i) *
      (Ideal.exp (L i - L j) * (if j.val < i.val then gk j * (sb j * sx j) else gam i * (sb i * sx i)) * sc i)
      else 0)) + Ideal.exp (L i) * sc i * ∑ n, E n p * c s n i

/-- What a chunk adds to the state. -/
def dS (x : Fin 4 → Fin 160 → Fin 128 → EReal) (b : Fin 4 → Fin 64 → Fin 128 → EReal)
    (sx sb wl : Fin 128 → EReal) (n : Fin 64) (p : Fin 160) : EReal :=
  ∑ r : Fin 4, ∑ j : Fin 128, b r n j * (wl j * (sb j * sx j) * x r p j)

/-- The last column's product, kept for the next chunk. -/
def tap (x : Fin 4 → Fin 160 → Fin 128 → EReal) (b : Fin 4 → Fin 64 → Fin 128 → EReal)
    (sx sb : Fin 128 → EReal) (n : Fin 64) (p : Fin 160) : EReal :=
  sb 127 * sx 127 * ∑ r : Fin 4, b r n 127 * x r p 127

theorem sum4 (f : Fin 512 → EReal) : ∑ x, f x =
    (∑ j : Fin 128, f ⟨j.val, by omega⟩) + (∑ j : Fin 128, f ⟨128 + j.val, by omega⟩)
    + (∑ j : Fin 128, f ⟨256 + j.val, by omega⟩) + ∑ j : Fin 128, f ⟨384 + j.val, by omega⟩ := by
  rw [Fin.sum_univ_add (a := 384) (b := 128) f, Fin.sum_univ_add (a := 256) (b := 128),
    Fin.sum_univ_add (a := 128) (b := 128)]
  rfl

theorem toInt_small (x : Nat) (hx : x < 128) : (BitVec.ofNat 32 x).toInt = (x : Int) := by
  rw [BitVec.toInt_eq_toNat_cond, BitVec.toNat_ofNat, Nat.mod_eq_of_lt (by omega), if_pos (by omega)]

theorem select_le {α : Type} (x t : Nat) (hx : x < 128) (ht : t < 128) (a b : α) :
    Scalar.select (IntOp.cmpi CmpIPredicate.sle (BitVec.ofNat 32 x) (BitVec.ofNat 32 t)) a b = if x ≤ t then a else b := by
  have : (BitVec.ofNat 32 x).sle (BitVec.ofNat 32 t) = decide (x ≤ t) := by
    simp only [BitVec.sle, toInt_small x hx, toInt_small t ht, Int.ofNat_le]
  by_cases h : x ≤ t <;> simp [Scalar.select, IntOp.cmpi, this, h]

theorem select_lt {α : Type} (x t : Nat) (hx : x < 128) (ht : t < 128) (a b : α) :
    Scalar.select (IntOp.cmpi CmpIPredicate.slt (BitVec.ofNat 32 x) (BitVec.ofNat 32 t)) a b = if x < t then a else b := by
  have : (BitVec.ofNat 32 x).slt (BitVec.ofNat 32 t) = decide (x < t) := by
    simp only [BitVec.slt, toInt_small x hx, toInt_small t ht, Int.ofNat_lt]
  by_cases h : x < t <;> simp [Scalar.select, IntOp.cmpi, this, h]

theorem select_127 {α : Type} (x : Nat) (hx : x < 128) (a b : α) :
    Scalar.select (IntOp.cmpi CmpIPredicate.eq (BitVec.ofNat 32 x) 127#32) a b = if x = 127 then a else b := by
  have : (BitVec.ofNat 32 x = 127#32) ↔ x = 127 := by
    constructor
    · intro e
      have := congrArg BitVec.toNat e
      simp only [BitVec.toNat_ofNat] at this
      omega
    · rintro rfl; rfl
  by_cases h : x = 127
  · subst h; rfl
  · have h' : ¬ BitVec.ofNat 32 x = 127#32 := fun e => h (this.1 e)
    rw [if_neg h]
    show (if BitVec.ofBool (BitVec.ofNat 32 x == 127#32) = 1#1 then a else b) = b
    rw [beq_eq_false_iff_ne.2 h']
    rfl

/-- The logarithm of the decay from a chunk's start to column `t`. -/
def Lk (e : Fin 128 → EReal) (t : Fin 128) : EReal := ∑ x : Fin 128, if x.val ≤ t.val then e x else 0

/-- The weight of a column for all later ones. -/
def gkf (g k : Fin 128 → EReal) (t : Fin 128) : EReal :=
  g t + (if t.val = 127 then 0 else k ⟨(t.val + 128 - 127) % 128, Nat.mod_lt _ (by decide)⟩)

/-- The weight of a column for the state. -/
def wlf (e g k : Fin 128 → EReal) (t : Fin 128) : EReal := Ideal.exp (Lk e 127 - Lk e t) * gkf g k t

theorem sitofp_le (x t : Nat) (hx : x < 128) (ht : t < 128) :
    (FloatOps.sitofp (F := Ideal) FTy.f32 (BitVec.setWidth 32 (IntOp.cmpi CmpIPredicate.sle (BitVec.ofNat 32 x) (BitVec.ofNat 32 t))) : EReal)
      = if x ≤ t then 1 else 0 := by
  have h := select_le x t hx ht (1 : Nat) 0
  by_cases hle : x ≤ t
  · rw [if_pos hle] at h ⊢
    have e : IntOp.cmpi CmpIPredicate.sle (BitVec.ofNat 32 x) (BitVec.ofNat 32 t) = 1#1 := by
      unfold Scalar.select at h
      by_contra hc
      simp [hc] at h
    rw [e]
    show (((BitVec.setWidth 32 1#1).toInt : ℝ) : EReal) = 1
    rw [show (BitVec.setWidth 32 1#1).toInt = 1 from by decide]
    norm_num
  · rw [if_neg hle] at h ⊢
    have e : IntOp.cmpi CmpIPredicate.sle (BitVec.ofNat 32 x) (BitVec.ofNat 32 t) = 0#1 := by
      unfold Scalar.select at h
      rcases BitVec.eq_zero_or_eq_one (IntOp.cmpi CmpIPredicate.sle (BitVec.ofNat 32 x) (BitVec.ofNat 32 t)) with h0 | h1
      · exact h0
      · simp [h1] at h
    rw [e]
    show (((BitVec.setWidth 32 0#1).toInt : ℝ) : EReal) = 0
    rw [show (BitVec.setWidth 32 0#1).toInt = 0 from by decide]
    norm_num

/-- A value's three parts, each times 0 or 1, sum to the value times that, unless the value is infinitely large. -/
theorem parts (a z : EReal) (h : a ≠ ⊤) (hz : z = 0 ∨ z = 1) : a * z + ((a - a) * z + (a - a - (a - a)) * z) = a * z := by
  rcases hz with rfl | rfl
  · simp
  · induction a using EReal.rec with
    | bot => simp
    | top => exact absurd rfl h
    | coe r => rw [EReal.sub_self (EReal.coe_ne_top r) (EReal.coe_ne_bot r)]; simp

theorem Lk_eq (e : Fin 128 → EReal) (h : ∀ j, e j ≠ ⊤) (t : Nat) (ht : t < 128) :
    (∑ x : Fin 128, e x * (FloatOps.sitofp (F := Ideal) FTy.f32 (BitVec.setWidth 32 (IntOp.cmpi CmpIPredicate.sle (BitVec.ofNat 32 x.val) (BitVec.ofNat 32 t))) : EReal))
      + ((∑ x : Fin 128, (e x - e x) * (FloatOps.sitofp (F := Ideal) FTy.f32 (BitVec.setWidth 32 (IntOp.cmpi CmpIPredicate.sle (BitVec.ofNat 32 x.val) (BitVec.ofNat 32 t))) : EReal))
      + ∑ x : Fin 128, (e x - e x - (e x - e x)) * (FloatOps.sitofp (F := Ideal) FTy.f32 (BitVec.setWidth 32 (IntOp.cmpi CmpIPredicate.sle (BitVec.ofNat 32 x.val) (BitVec.ofNat 32 t))) : EReal))
      = Lk e ⟨t, ht⟩ := by
  rw [← Finset.sum_add_distrib, ← Finset.sum_add_distrib]
  refine (Finset.sum_congr rfl fun x _ => ?_).trans (?_ : ∑ x : Fin 128, e x * (if x.val ≤ t then (1 : EReal) else 0) = _)
  · rw [sitofp_le _ _ (Fin.is_lt _) ht]
    exact parts _ _ (h x) (by by_cases hx : x.val ≤ t <;> simp [hx])
  · simp only [Lk, mul_ite, mul_one, mul_zero]

theorem cmpi_le (x t : Nat) (hx : x < 128) (ht : t < 128) :
    IntOp.cmpi CmpIPredicate.sle (BitVec.ofNat 32 x) (BitVec.ofNat 32 t) = if x ≤ t then 1#1 else 0#1 := by
  have h := select_le x t hx ht (1 : Nat) 0
  by_cases hle : x ≤ t
  · rw [if_pos hle] at h ⊢
    unfold Scalar.select at h
    by_contra hc
    simp [hc] at h
  · rw [if_neg hle] at h ⊢
    unfold Scalar.select at h
    rcases BitVec.eq_zero_or_eq_one (IntOp.cmpi CmpIPredicate.sle (BitVec.ofNat 32 x) (BitVec.ofNat 32 t)) with h0 | h1
    · exact h0
    · simp [h1] at h

theorem cmpi_lt (x t : Nat) (hx : x < 128) (ht : t < 128) :
    IntOp.cmpi CmpIPredicate.slt (BitVec.ofNat 32 x) (BitVec.ofNat 32 t) = if x < t then 1#1 else 0#1 := by
  have h := select_lt x t hx ht (1 : Nat) 0
  by_cases hle : x < t
  · rw [if_pos hle] at h ⊢
    unfold Scalar.select at h
    by_contra hc
    simp [hc] at h
  · rw [if_neg hle] at h ⊢
    unfold Scalar.select at h
    rcases BitVec.eq_zero_or_eq_one (IntOp.cmpi CmpIPredicate.slt (BitVec.ofNat 32 x) (BitVec.ofNat 32 t)) with h0 | h1
    · exact h0
    · simp [h1] at h

theorem uitofp_one : (FloatOps.uitofp (F := Ideal) FTy.f32 (1#1) : EReal) = 1 := by
  show (((1#1 : BitVec 1).toNat : ℝ) : EReal) = 1
  rw [show (1#1 : BitVec 1).toNat = 1 from by decide]
  norm_num

theorem uitofp_zero : (FloatOps.uitofp (F := Ideal) FTy.f32 (0#1) : EReal) = 0 := by
  show (((0#1 : BitVec 1).toNat : ℝ) : EReal) = 0
  rw [show (0#1 : BitVec 1).toNat = 0 from by decide]
  norm_num

/-- The contribution of column `j` to column `t`, as the mathematics writes it and as the kernel computes it. -/
theorem yterm (j t : Nat) (hj : j < 128) (ht : t < 128) (G G' X Z gj kj gt gkj sc sb sx sbt sxt x : EReal) (hG : G = G') (hZ : Z = 0)
    (h1 : j < t → gkj = gj + kj) (h2 : j = t → gt = gj ∧ sbt = sb ∧ sxt = sx) :
    G * (sc * sb * (Scalar.select (IntOp.cmpi CmpIPredicate.sle (BitVec.ofNat 32 j) (BitVec.ofNat 32 t)) X Z *
      (gj * (FloatOps.uitofp (F := Ideal) FTy.f32 (IntOp.cmpi CmpIPredicate.sle (BitVec.ofNat 32 j) (BitVec.ofNat 32 t)) : EReal) +
       kj * (FloatOps.uitofp (F := Ideal) FTy.f32 (IntOp.cmpi CmpIPredicate.slt (BitVec.ofNat 32 j) (BitVec.ofNat 32 t)) : EReal))) * sx) * x
      = x * (if j ≤ t then G' * (X * (if j < t then gkj * (sb * sx) else gt * (sbt * sxt)) * sc) else 0) := by
  subst hG hZ
  rw [cmpi_le j t hj ht, cmpi_lt j t hj ht]
  rcases lt_trichotomy j t with h | h | h
  · rw [if_pos h.le, if_pos h, if_pos h.le, if_pos h, uitofp_one, mul_one, mul_one, h1 h]
    show G * (sc * sb * (X * (gj + kj)) * sx) * x = _
    ac_rfl
  · obtain ⟨a, b, c⟩ := h2 h
    rw [if_pos h.le, if_neg (by omega), if_pos h.le, if_neg (by omega), uitofp_one, uitofp_zero, mul_one, mul_zero, add_zero, a, b, c]
    show G * (sc * sb * (X * gj) * sx) * x = _
    ac_rfl
  · rw [if_neg (by omega), if_neg (by omega), if_neg (by omega)]
    show G * (sc * sb * ((0 : EReal) * _) * sx) * x = _
    simp only [zero_mul, mul_zero]

/-- The contribution of column `j` to the state, as the mathematics writes it and as the kernel computes it. -/
theorem sterm (j : Nat) (hj : j < 128) (B X Z gj kj gkj sb sx x : EReal)
    (h1 : j < 127 → gkj = gj + kj) (h2 : j = 127 → gkj = gj) :
    B * (Scalar.select (IntOp.cmpi CmpIPredicate.sle (BitVec.ofNat 32 j) (BitVec.ofNat 32 127)) X Z *
      (gj * (FloatOps.uitofp (F := Ideal) FTy.f32 (IntOp.cmpi CmpIPredicate.sle (BitVec.ofNat 32 j) (BitVec.ofNat 32 127)) : EReal) +
       kj * (FloatOps.uitofp (F := Ideal) FTy.f32 (IntOp.cmpi CmpIPredicate.slt (BitVec.ofNat 32 j) (BitVec.ofNat 32 127)) : EReal)) * sb * sx * x)
      = B * (X * gkj * (sb * sx) * x) := by
  rw [cmpi_le j 127 hj (by decide), cmpi_lt j 127 hj (by decide), if_pos (by omega)]
  rcases lt_or_eq_of_le (Nat.le_of_lt_succ hj) with h | h
  · rw [if_pos h, uitofp_one, mul_one, mul_one, h1 h]
    show B * (X * (gj + kj) * sb * sx * x) = _
    ac_rfl
  · rw [if_neg (by omega), uitofp_one, uitofp_zero, mul_one, mul_zero, add_zero, h2 h]
    show B * (X * gj * sb * sx * x) = _
    ac_rfl

theorem gkf_lt (g k : Fin 128 → EReal) (j : Nat) (hj : j < 127) : gkf g k ⟨j, by omega⟩ = g ⟨j, by omega⟩ + k ⟨1 + j, by omega⟩ := by
  unfold gkf
  rw [if_neg (by show ¬ j = 127; omega)]
  have e : (⟨((⟨j, by omega⟩ : Fin 128).val + 128 - 127) % 128, Nat.mod_lt _ (by decide)⟩ : Fin 128) = ⟨1 + j, by omega⟩ := Fin.ext (by show (j + 128 - 127) % 128 = 1 + j; omega)
  rw [e]

theorem gkf_127 (g k : Fin 128 → EReal) : gkf g k 127 = g 127 := by
  unfold gkf
  rw [if_pos (show ((127 : Fin 128).val) = 127 from rfl), add_zero]

/-- Softplus. -/
def sp (a : EReal) : EReal := if a ≠ a then a else max a 0 + Ideal.log1p (Ideal.exp (-(FloatOps.absf (F := Ideal) (φ := FTy.f32) a)))
/-- The decay of one step. -/
def ell (a l : EReal) : EReal := sp a * -Ideal.exp l
/-- The weight of a step's own term. -/
def gm (a z : EReal) : EReal := Ideal.div 1 (1 + Ideal.exp (-z)) * sp a
/-- The weight of a step's term at the step before. -/
def kp (a z : EReal) : EReal := (1 - Ideal.div 1 (1 + Ideal.exp (-z))) * sp a

theorem exp_nonneg (a : EReal) : 0 ≤ Ideal.exp a := by
  induction a using EReal.rec with
  | bot => exact le_refl _
  | top => exact le_top
  | coe r => exact EReal.coe_nonneg.mpr (Real.exp_pos r).le

theorem log1p_nonneg (a : EReal) (h : 0 ≤ a) : 0 ≤ Ideal.log1p a := by
  induction a using EReal.rec with
  | bot => simp at h
  | top => exact le_of_lt (by show (0 : EReal) < Ideal.log (1 + ⊤); rw [show (1 : EReal) + ⊤ = ⊤ from rfl]; exact EReal.zero_lt_top)
  | coe r =>
    have hr : 0 ≤ r := EReal.coe_nonneg.mp h
    show 0 ≤ Ideal.log (((1 + r : ℝ)) : EReal)
    show (0 : EReal) ≤ (if 1 + r ≤ 0 then ⊥ else ((Real.log (1 + r) : ℝ) : EReal))
    rw [if_neg (by linarith)]
    exact EReal.coe_nonneg.mpr (Real.log_nonneg (by linarith))

/-- The softplus is not negative. -/
theorem sp_nonneg (a : EReal) : 0 ≤ sp a := by
  unfold sp
  rw [if_neg (by simp)]
  exact add_nonneg (le_max_right _ _) (log1p_nonneg _ (exp_nonneg _))

/-- A decay is not above zero, so not infinitely large. -/
theorem ell_ne_top (a l : EReal) : ell a l ≠ ⊤ := by
  unfold ell
  have h : 0 ≤ sp a * Ideal.exp l := EReal.mul_nonneg (sp_nonneg a) (exp_nonneg l)
  rw [mul_neg]
  intro e
  have e' : sp a * Ideal.exp l = ⊥ := EReal.neg_eq_top_iff.mp e
  rw [e'] at h
  exact absurd h (by simp)

end Cert.Scan
-- ==== Proof.Scan.Goal.lean ====
module

public import proofs.«01_k».proof.Proof.Scan.Spec

@[expose] public section
set_option maxRecDepth 16384

noncomputable section
open Idealize.ShloMosaic Idealize.ShloMosaic.TcCoe
namespace Cert.Scan

/-- The decays of one head over one chunk of a batch. -/
def eA (A6 : (⟨3, ![6, 256, 20]⟩ : Shape).Idx → EReal) (A7 : (⟨1, ![20]⟩ : Shape).Idx → EReal) (A8 : (⟨1, ![20]⟩ : Shape).Idx → EReal) (q : Fin 6) (h : Fin 20) (f : Fin 128 → Fin 256) (j : Fin 128) : EReal := ell (A6 (ix3 q (f j) h) + A7 (ix1 h)) (A8 (ix1 h))
/-- The steps' own weights. -/
def gA (A6 : (⟨3, ![6, 256, 20]⟩ : Shape).Idx → EReal) (A7 : (⟨1, ![20]⟩ : Shape).Idx → EReal) (A9 : (⟨3, ![6, 256, 20]⟩ : Shape).Idx → EReal) (q : Fin 6) (h : Fin 20) (f : Fin 128 → Fin 256) (j : Fin 128) : EReal := gm (A6 (ix3 q (f j) h) + A7 (ix1 h)) (A9 (ix3 q (f j) h))
/-- The steps' weights at the step before. -/
def kA (A6 : (⟨3, ![6, 256, 20]⟩ : Shape).Idx → EReal) (A7 : (⟨1, ![20]⟩ : Shape).Idx → EReal) (A9 : (⟨3, ![6, 256, 20]⟩ : Shape).Idx → EReal) (q : Fin 6) (h : Fin 20) (f : Fin 128 → Fin 256) (j : Fin 128) : EReal := kp (A6 (ix3 q (f j) h) + A7 (ix1 h)) (A9 (ix3 q (f j) h))
/-- One chunk's contribution to the state. -/
def dA (A0 : (⟨5, ![6, 20, 4, 160, 256]⟩ : Shape).Idx → EReal) (A1 : (⟨5, ![6, 20, 4, 64, 256]⟩ : Shape).Idx → EReal) (A3 A4 : (⟨3, ![6, 20, 256]⟩ : Shape).Idx → EReal) (A6 : (⟨3, ![6, 256, 20]⟩ : Shape).Idx → EReal) (A7 : (⟨1, ![20]⟩ : Shape).Idx → EReal) (A8 : (⟨1, ![20]⟩ : Shape).Idx → EReal) (A9 : (⟨3, ![6, 256, 20]⟩ : Shape).Idx → EReal) (q : Fin 6) (h : Fin 20) (f : Fin 128 → Fin 256) (n : Fin 64) (p : Fin 160) : EReal :=
  dS (fun r p j => A0 (ix5 q h r p (f j))) (fun r n j => A1 (ix5 q h r n (f j))) (fun j => A3 (ix3 q h (f j))) (fun j => A4 (ix3 q h (f j)))
    (fun j => wlf (eA A6 A7 A8 q h f) (gA A6 A7 A9 q h f) (kA A6 A7 A9 q h f) j) n p
/-- The state the second chunk starts from. -/
def midA (A0 : (⟨5, ![6, 20, 4, 160, 256]⟩ : Shape).Idx → EReal) (A1 : (⟨5, ![6, 20, 4, 64, 256]⟩ : Shape).Idx → EReal) (A3 A4 : (⟨3, ![6, 20, 256]⟩ : Shape).Idx → EReal) (A6 : (⟨3, ![6, 256, 20]⟩ : Shape).Idx → EReal) (A7 : (⟨1, ![20]⟩ : Shape).Idx → EReal) (A8 : (⟨1, ![20]⟩ : Shape).Idx → EReal) (A9 : (⟨3, ![6, 256, 20]⟩ : Shape).Idx → EReal) (A10 : (⟨4, ![6, 20, 64, 160]⟩ : Shape).Idx → EReal) (q : Fin 6) (h : Fin 20) (n : Fin 64) (p : Fin 160) : EReal :=
  (Ideal.exp (Lk (eA A6 A7 A8 q h lo) 127) * A10 (ix4 q h n p) + dA A0 A1 A3 A4 A6 A7 A8 A9 q h lo n p)
    + kA A6 A7 A9 q h hi 0 * tap (fun r p j => A0 (ix5 q h r p (lo j))) (fun r n j => A1 (ix5 q h r n (lo j))) (fun j => A3 (ix3 q h (lo j))) (fun j => A4 (ix3 q h (lo j))) n p
/-- The final state. -/
def finA (A0 : (⟨5, ![6, 20, 4, 160, 256]⟩ : Shape).Idx → EReal) (A1 : (⟨5, ![6, 20, 4, 64, 256]⟩ : Shape).Idx → EReal) (A3 A4 : (⟨3, ![6, 20, 256]⟩ : Shape).Idx → EReal) (A6 : (⟨3, ![6, 256, 20]⟩ : Shape).Idx → EReal) (A7 : (⟨1, ![20]⟩ : Shape).Idx → EReal) (A8 : (⟨1, ![20]⟩ : Shape).Idx → EReal) (A9 : (⟨3, ![6, 256, 20]⟩ : Shape).Idx → EReal) (A10 : (⟨4, ![6, 20, 64, 160]⟩ : Shape).Idx → EReal) (q : Fin 6) (h : Fin 20) (n : Fin 64) (p : Fin 160) : EReal :=
  Ideal.exp (Lk (eA A6 A7 A8 q h hi) 127) * midA A0 A1 A3 A4 A6 A7 A8 A9 A10 q h n p + dA A0 A1 A3 A4 A6 A7 A8 A9 q h hi n p
/-- One chunk of the output, from the state it starts with. -/
def yA (A0 : (⟨5, ![6, 20, 4, 160, 256]⟩ : Shape).Idx → EReal) (A1 : (⟨5, ![6, 20, 4, 64, 256]⟩ : Shape).Idx → EReal) (A2 : (⟨5, ![6, 20, 4, 64, 256]⟩ : Shape).Idx → EReal) (A3 A4 A5 : (⟨3, ![6, 20, 256]⟩ : Shape).Idx → EReal) (A6 : (⟨3, ![6, 256, 20]⟩ : Shape).Idx → EReal) (A7 : (⟨1, ![20]⟩ : Shape).Idx → EReal) (A8 : (⟨1, ![20]⟩ : Shape).Idx → EReal) (A9 : (⟨3, ![6, 256, 20]⟩ : Shape).Idx → EReal) (E : Fin 64 → Fin 160 → EReal) (q : Fin 6) (h : Fin 20) (f : Fin 128 → Fin 256) (s : Fin 4) (p : Fin 160) (t : Fin 128) : EReal :=
  yc (fun r p j => A0 (ix5 q h r p (f j))) (fun r n j => A1 (ix5 q h r n (f j))) (fun r n j => A2 (ix5 q h r n (f j)))
    (fun j => A3 (ix3 q h (f j))) (fun j => A4 (ix3 q h (f j))) (fun j => A5 (ix3 q h (f j)))
    (fun j => Lk (eA A6 A7 A8 q h f) j) (gA A6 A7 A9 q h f) (gkf (gA A6 A7 A9 q h f) (kA A6 A7 A9 q h f)) E s p t

/-- A place of an axis of 256 is in the first chunk or in the second. -/
theorem chunk (j : Fin 256) : (∃ t, j = lo t) ∨ ∃ t, j = hi t := by
  by_cases hj : j.val < 128
  · exact Or.inl ⟨⟨j.val, hj⟩, Fin.ext rfl⟩
  · exact Or.inr ⟨⟨j.val - 128, by omega⟩, Fin.ext (by show j.val = 128 + (j.val - 128); omega)⟩

end Cert.Scan
-- ==== Proof.Scan.Body.lean ====
module

public import proofs.«01_k».proof.Proof.Gen.KernelIdeal.Frame
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Scan

open Cert.KernelIdeal Cert.KernelIdeal.Gen

variable {F : FTy → Type} [FloatOps F]

/-- Value 0 of the body over the blocks and the carried rows. -/
def w_0 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x160 .f32 :=
  k0_pay28 (View.ld x10 (Rect.unit ![0, 0, 0, 0] S1x1x64x160.size inb_S1x1x64x160_S1x1x64x160_0_0_0_0))

/-- Value 1 of the body over the blocks and the carried rows. -/
def w_1 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .fp8e4m3 :=
  k0_pay29 (View.ld x0 (Rect.unit ![0, 0, 0, 0, 0] S1x1x1x160x128.size inb_S1x1x4x160x256_S1x1x1x160x128_0_0_0_0_0))

/-- Value 2 of the body over the blocks and the carried rows. -/
def w_2 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .fp8e4m3 :=
  k0_pay30 (View.ld x0 (Rect.unit ![0, 0, 1, 0, 0] S1x1x1x160x128.size inb_S1x1x4x160x256_S1x1x1x160x128_0_0_1_0_0))

/-- Value 3 of the body over the blocks and the carried rows. -/
def w_3 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .fp8e4m3 :=
  k0_pay31 (View.ld x0 (Rect.unit ![0, 0, 2, 0, 0] S1x1x1x160x128.size inb_S1x1x4x160x256_S1x1x1x160x128_0_0_2_0_0))

/-- Value 4 of the body over the blocks and the carried rows. -/
def w_4 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .fp8e4m3 :=
  k0_pay32 (View.ld x0 (Rect.unit ![0, 0, 3, 0, 0] S1x1x1x160x128.size inb_S1x1x4x160x256_S1x1x1x160x128_0_0_3_0_0))

/-- Value 5 of the body over the blocks and the carried rows. -/
def w_5 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay33 (View.ld x1 (Rect.unit ![0, 0, 0, 0, 0] S1x1x1x64x128.size inb_S1x1x4x64x256_S1x1x1x64x128_0_0_0_0_0))

/-- Value 6 of the body over the blocks and the carried rows. -/
def w_6 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay34 (View.ld x1 (Rect.unit ![0, 0, 1, 0, 0] S1x1x1x64x128.size inb_S1x1x4x64x256_S1x1x1x64x128_0_0_1_0_0))

/-- Value 7 of the body over the blocks and the carried rows. -/
def w_7 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay35 (View.ld x1 (Rect.unit ![0, 0, 2, 0, 0] S1x1x1x64x128.size inb_S1x1x4x64x256_S1x1x1x64x128_0_0_2_0_0))

/-- Value 8 of the body over the blocks and the carried rows. -/
def w_8 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay36 (View.ld x1 (Rect.unit ![0, 0, 3, 0, 0] S1x1x1x64x128.size inb_S1x1x4x64x256_S1x1x1x64x128_0_0_3_0_0))

/-- Value 9 of the body over the blocks and the carried rows. -/
def w_9 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay37 (View.ld x2 (Rect.unit ![0, 0, 0, 0, 0] S1x1x1x64x128.size inb_S1x1x4x64x256_S1x1x1x64x128_0_0_0_0_0))

/-- Value 10 of the body over the blocks and the carried rows. -/
def w_10 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay38 (View.ld x2 (Rect.unit ![0, 0, 1, 0, 0] S1x1x1x64x128.size inb_S1x1x4x64x256_S1x1x1x64x128_0_0_1_0_0))

/-- Value 11 of the body over the blocks and the carried rows. -/
def w_11 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay39 (View.ld x2 (Rect.unit ![0, 0, 2, 0, 0] S1x1x1x64x128.size inb_S1x1x4x64x256_S1x1x1x64x128_0_0_2_0_0))

/-- Value 12 of the body over the blocks and the carried rows. -/
def w_12 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay40 (View.ld x2 (Rect.unit ![0, 0, 3, 0, 0] S1x1x1x64x128.size inb_S1x1x4x64x256_S1x1x1x64x128_0_0_3_0_0))

/-- Value 13 of the body over the blocks and the carried rows. -/
def w_13 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S1x128 .f32 :=
  k0_pay41 (View.ld x3 (Rect.unit (k0_off1 i) S1x1x128.size (k0_off1_inb i)))

/-- Value 14 of the body over the blocks and the carried rows. -/
def w_14 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S1x128 .f32 :=
  k0_pay42 (View.ld x4 (Rect.unit (k0_off1 i) S1x1x128.size (k0_off1_inb i)))

/-- Value 15 of the body over the blocks and the carried rows. -/
def w_15 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S1x128 .f32 :=
  k0_pay43 (View.ld x5 (Rect.unit (k0_off1 i) S1x1x128.size (k0_off1_inb i)))

/-- Value 16 of the body over the blocks and the carried rows. -/
def w_16 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .bf16 :=
  k0_pay44 (w_1 i x0 x1 x2 x3 x4 x5 x10 xs1 xs2 xs3 xs4 xs5)

/-- Value 17 of the body over the blocks and the carried rows. -/
def w_17 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .bf16 :=
  k0_pay45 (w_2 i x0 x1 x2 x3 x4 x5 x10 xs1 xs2 xs3 xs4 xs5)

/-- Value 18 of the body over the blocks and the carried rows. -/
def w_18 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .bf16 :=
  k0_pay46 (w_3 i x0 x1 x2 x3 x4 x5 x10 xs1 xs2 xs3 xs4 xs5)

/-- Value 19 of the body over the blocks and the carried rows. -/
def w_19 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .bf16 :=
  k0_pay47 (w_4 i x0 x1 x2 x3 x4 x5 x10 xs1 xs2 xs3 xs4 xs5)

/-- Value 20 of the body over the blocks and the carried rows. -/
def w_20 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .bf16 :=
  k0_pay48 (w_5 i x0 x1 x2 x3 x4 x5 x10 xs1 xs2 xs3 xs4 xs5)

/-- Value 21 of the body over the blocks and the carried rows. -/
def w_21 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .bf16 :=
  k0_pay49 (w_6 i x0 x1 x2 x3 x4 x5 x10 xs1 xs2 xs3 xs4 xs5)

/-- Value 22 of the body over the blocks and the carried rows. -/
def w_22 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .bf16 :=
  k0_pay50 (w_7 i x0 x1 x2 x3 x4 x5 x10 xs1 xs2 xs3 xs4 xs5)

/-- Value 23 of the body over the blocks and the carried rows. -/
def w_23 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .bf16 :=
  k0_pay51 (w_8 i x0 x1 x2 x3 x4 x5 x10 xs1 xs2 xs3 xs4 xs5)

/-- Value 24 of the body over the blocks and the carried rows. -/
def w_24 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x512 .bf16 :=
  k0_pay52 (w_2 i x0 x1 x2 x3 x4 x5 x10 xs1 xs2 xs3 xs4 xs5) (w_3 i x0 x1 x2 x3 x4 x5 x10 xs1 xs2 xs3 xs4 xs5) (w_4 i x0 x1 x2 x3 x4 x5 x10 xs1 xs2 xs3 xs4 xs5) (w_16 i x0 x1 x2 x3 x4 x5 x10 xs1 xs2 xs3 xs4 xs5)

/-- Value 25 of the body over the blocks and the carried rows. -/
def w_25 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x512 .bf16 :=
  k0_pay53 (w_5 i x0 x1 x2 x3 x4 x5 x10 xs1 xs2 xs3 xs4 xs5) (w_6 i x0 x1 x2 x3 x4 x5 x10 xs1 xs2 xs3 xs4 xs5) (w_7 i x0 x1 x2 x3 x4 x5 x10 xs1 xs2 xs3 xs4 xs5) (w_8 i x0 x1 x2 x3 x4 x5 x10 xs1 xs2 xs3 xs4 xs5)

/-- Value 26 of the body over the blocks and the carried rows. -/
def w_26 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x512 .fp8e4m3 :=
  k0_pay54 (w_9 i x0 x1 x2 x3 x4 x5 x10 xs1 xs2 xs3 xs4 xs5) (w_10 i x0 x1 x2 x3 x4 x5 x10 xs1 xs2 xs3 xs4 xs5) (w_11 i x0 x1 x2 x3 x4 x5 x10 xs1 xs2 xs3 xs4 xs5) (w_12 i x0 x1 x2 x3 x4 x5 x10 xs1 xs2 xs3 xs4 xs5)

/-- Value 27 of the body over the blocks and the carried rows. -/
def w_27 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S128x64 .fp8e4m3 :=
  k0_pay55 (w_5 i x0 x1 x2 x3 x4 x5 x10 xs1 xs2 xs3 xs4 xs5)

/-- Value 28 of the body over the blocks and the carried rows. -/
def w_28 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S128x64 .fp8e4m3 :=
  k0_pay56 (w_6 i x0 x1 x2 x3 x4 x5 x10 xs1 xs2 xs3 xs4 xs5)

/-- Value 29 of the body over the blocks and the carried rows. -/
def w_29 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S128x64 .fp8e4m3 :=
  k0_pay57 (w_7 i x0 x1 x2 x3 x4 x5 x10 xs1 xs2 xs3 xs4 xs5)

/-- Value 30 of the body over the blocks and the carried rows. -/
def w_30 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S128x64 .fp8e4m3 :=
  k0_pay58 (w_8 i x0 x1 x2 x3 x4 x5 x10 xs1 xs2 xs3 xs4 xs5)

/-- Value 31 of the body over the blocks and the carried rows. -/
def w_31 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S1x128 .f32 :=
  k0_pay59 (View.ld xs1 (Rect.unit (k0_off2 i) S1x1x128.size (k0_off2_inb i)))

/-- Value 32 of the body over the blocks and the carried rows. -/
def w_32 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S1x128 .f32 :=
  k0_pay60 (w_13 i x0 x1 x2 x3 x4 x5 x10 xs1 xs2 xs3 xs4 xs5) (w_14 i x0 x1 x2 x3 x4 x5 x10 xs1 xs2 xs3 xs4 xs5)

/-- Value 33 of the body over the blocks and the carried rows. -/
def w_33 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S128x128 .f32 :=
  k0_pay62 (iota Kind.tc S128x128 32 [0] iota_S128x128_d0_w32) (iota Kind.tc S128x128 32 [1] iota_S128x128_d1_w32) (w_13 i x0 x1 x2 x3 x4 x5 x10 xs1 xs2 xs3 xs4 xs5) (w_14 i x0 x1 x2 x3 x4 x5 x10 xs1 xs2 xs3 xs4 xs5) (View.ld xs1 (Rect.unit (k0_off2 i) S1x1x128.size (k0_off2_inb i))) (View.ld xs3 (Rect.unit (k0_off2 i) S1x1x128.size (k0_off2_inb i))) (View.ld xs2 (Rect.unit (k0_off2 i) S1x1x128.size (k0_off2_inb i)))

/-- Value 34 of the body over the blocks and the carried rows. -/
def w_34 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x512 .bf16 :=
  k0_pay64 (w_0 i x0 x1 x2 x3 x4 x5 x10 xs1 xs2 xs3 xs4 xs5) (w_15 i x0 x1 x2 x3 x4 x5 x10 xs1 xs2 xs3 xs4 xs5) (w_24 i x0 x1 x2 x3 x4 x5 x10 xs1 xs2 xs3 xs4 xs5) (w_26 i x0 x1 x2 x3 x4 x5 x10 xs1 xs2 xs3 xs4 xs5) (w_27 i x0 x1 x2 x3 x4 x5 x10 xs1 xs2 xs3 xs4 xs5) (w_28 i x0 x1 x2 x3 x4 x5 x10 xs1 xs2 xs3 xs4 xs5) (w_29 i x0 x1 x2 x3 x4 x5 x10 xs1 xs2 xs3 xs4 xs5) (w_30 i x0 x1 x2 x3 x4 x5 x10 xs1 xs2 xs3 xs4 xs5) (w_31 i x0 x1 x2 x3 x4 x5 x10 xs1 xs2 xs3 xs4 xs5) (k0_pay61 (iota Kind.tc S128x128 32 [0] iota_S128x128_d0_w32) (iota Kind.tc S128x128 32 [1] iota_S128x128_d1_w32)) (w_33 i x0 x1 x2 x3 x4 x5 x10 xs1 xs2 xs3 xs4 xs5) k0_pay63

/-- Value 35 of the body over the blocks and the carried rows. -/
def w_35 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .bf16 :=
  k0_pay67 (w_0 i x0 x1 x2 x3 x4 x5 x10 xs1 xs2 xs3 xs4 xs5) (w_15 i x0 x1 x2 x3 x4 x5 x10 xs1 xs2 xs3 xs4 xs5) (w_24 i x0 x1 x2 x3 x4 x5 x10 xs1 xs2 xs3 xs4 xs5) (w_26 i x0 x1 x2 x3 x4 x5 x10 xs1 xs2 xs3 xs4 xs5) (w_27 i x0 x1 x2 x3 x4 x5 x10 xs1 xs2 xs3 xs4 xs5) (w_28 i x0 x1 x2 x3 x4 x5 x10 xs1 xs2 xs3 xs4 xs5) (w_29 i x0 x1 x2 x3 x4 x5 x10 xs1 xs2 xs3 xs4 xs5) (w_30 i x0 x1 x2 x3 x4 x5 x10 xs1 xs2 xs3 xs4 xs5) (w_31 i x0 x1 x2 x3 x4 x5 x10 xs1 xs2 xs3 xs4 xs5) (k0_pay61 (iota Kind.tc S128x128 32 [0] iota_S128x128_d0_w32) (iota Kind.tc S128x128 32 [1] iota_S128x128_d1_w32)) (w_33 i x0 x1 x2 x3 x4 x5 x10 xs1 xs2 xs3 xs4 xs5) k0_pay63

/-- Value 36 of the body over the blocks and the carried rows. -/
def w_36 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x160 .f32 :=
  k0_pay70 (w_16 i x0 x1 x2 x3 x4 x5 x10 xs1 xs2 xs3 xs4 xs5) (w_17 i x0 x1 x2 x3 x4 x5 x10 xs1 xs2 xs3 xs4 xs5) (w_18 i x0 x1 x2 x3 x4 x5 x10 xs1 xs2 xs3 xs4 xs5) (w_19 i x0 x1 x2 x3 x4 x5 x10 xs1 xs2 xs3 xs4 xs5) (w_25 i x0 x1 x2 x3 x4 x5 x10 xs1 xs2 xs3 xs4 xs5) (w_32 i x0 x1 x2 x3 x4 x5 x10 xs1 xs2 xs3 xs4 xs5) (View.ld xs5 (Rect.unit (k0_off2 i) S1x1x128.size (k0_off2_inb i)))

/-- Value 37 of the body over the blocks and the carried rows. -/
def w_37 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .bf16 :=
  k0_pay72 (w_20 i x0 x1 x2 x3 x4 x5 x10 xs1 xs2 xs3 xs4 xs5)

/-- Value 38 of the body over the blocks and the carried rows. -/
def w_38 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .bf16 :=
  k0_pay73 (w_21 i x0 x1 x2 x3 x4 x5 x10 xs1 xs2 xs3 xs4 xs5)

/-- Value 39 of the body over the blocks and the carried rows. -/
def w_39 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .f32 :=
  k0_pay74 (w_22 i x0 x1 x2 x3 x4 x5 x10 xs1 xs2 xs3 xs4 xs5)

/-- Value 40 of the body over the blocks and the carried rows. -/
def w_40 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x160 .f32 :=
  k0_pay76 (w_23 i x0 x1 x2 x3 x4 x5 x10 xs1 xs2 xs3 xs4 xs5) (w_24 i x0 x1 x2 x3 x4 x5 x10 xs1 xs2 xs3 xs4 xs5) (w_32 i x0 x1 x2 x3 x4 x5 x10 xs1 xs2 xs3 xs4 xs5) k0_pay71 (w_37 i x0 x1 x2 x3 x4 x5 x10 xs1 xs2 xs3 xs4 xs5) (w_38 i x0 x1 x2 x3 x4 x5 x10 xs1 xs2 xs3 xs4 xs5) (w_39 i x0 x1 x2 x3 x4 x5 x10 xs1 xs2 xs3 xs4 xs5) (FloatOps.ofBits FTy.f32 0#32) k0_pay75

/-- Value 41 of the body over the blocks and the carried rows. -/
def w_41 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x160 .f32 :=
  k0_pay77 (w_0 i x0 x1 x2 x3 x4 x5 x10 xs1 xs2 xs3 xs4 xs5) (w_31 i x0 x1 x2 x3 x4 x5 x10 xs1 xs2 xs3 xs4 xs5) (w_36 i x0 x1 x2 x3 x4 x5 x10 xs1 xs2 xs3 xs4 xs5)

/-- Value 42 of the body over the blocks and the carried rows. -/
def w_42 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .fp8e4m3 :=
  k0_pay78 (View.ld x0 (Rect.unit ![0, 0, 0, 0, 128] S1x1x1x160x128.size inb_S1x1x4x160x256_S1x1x1x160x128_0_0_0_0_128))

/-- Value 43 of the body over the blocks and the carried rows. -/
def w_43 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .fp8e4m3 :=
  k0_pay79 (View.ld x0 (Rect.unit ![0, 0, 1, 0, 128] S1x1x1x160x128.size inb_S1x1x4x160x256_S1x1x1x160x128_0_0_1_0_128))

/-- Value 44 of the body over the blocks and the carried rows. -/
def w_44 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .fp8e4m3 :=
  k0_pay80 (View.ld x0 (Rect.unit ![0, 0, 2, 0, 128] S1x1x1x160x128.size inb_S1x1x4x160x256_S1x1x1x160x128_0_0_2_0_128))

/-- Value 45 of the body over the blocks and the carried rows. -/
def w_45 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .fp8e4m3 :=
  k0_pay81 (View.ld x0 (Rect.unit ![0, 0, 3, 0, 128] S1x1x1x160x128.size inb_S1x1x4x160x256_S1x1x1x160x128_0_0_3_0_128))

/-- Value 46 of the body over the blocks and the carried rows. -/
def w_46 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay82 (View.ld x1 (Rect.unit ![0, 0, 0, 0, 128] S1x1x1x64x128.size inb_S1x1x4x64x256_S1x1x1x64x128_0_0_0_0_128))

/-- Value 47 of the body over the blocks and the carried rows. -/
def w_47 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay83 (View.ld x1 (Rect.unit ![0, 0, 1, 0, 128] S1x1x1x64x128.size inb_S1x1x4x64x256_S1x1x1x64x128_0_0_1_0_128))

/-- Value 48 of the body over the blocks and the carried rows. -/
def w_48 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay84 (View.ld x1 (Rect.unit ![0, 0, 2, 0, 128] S1x1x1x64x128.size inb_S1x1x4x64x256_S1x1x1x64x128_0_0_2_0_128))

/-- Value 49 of the body over the blocks and the carried rows. -/
def w_49 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay85 (View.ld x1 (Rect.unit ![0, 0, 3, 0, 128] S1x1x1x64x128.size inb_S1x1x4x64x256_S1x1x1x64x128_0_0_3_0_128))

/-- Value 50 of the body over the blocks and the carried rows. -/
def w_50 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay86 (View.ld x2 (Rect.unit ![0, 0, 0, 0, 128] S1x1x1x64x128.size inb_S1x1x4x64x256_S1x1x1x64x128_0_0_0_0_128))

/-- Value 51 of the body over the blocks and the carried rows. -/
def w_51 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay87 (View.ld x2 (Rect.unit ![0, 0, 1, 0, 128] S1x1x1x64x128.size inb_S1x1x4x64x256_S1x1x1x64x128_0_0_1_0_128))

/-- Value 52 of the body over the blocks and the carried rows. -/
def w_52 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay88 (View.ld x2 (Rect.unit ![0, 0, 2, 0, 128] S1x1x1x64x128.size inb_S1x1x4x64x256_S1x1x1x64x128_0_0_2_0_128))

/-- Value 53 of the body over the blocks and the carried rows. -/
def w_53 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x128 .fp8e4m3 :=
  k0_pay89 (View.ld x2 (Rect.unit ![0, 0, 3, 0, 128] S1x1x1x64x128.size inb_S1x1x4x64x256_S1x1x1x64x128_0_0_3_0_128))

/-- Value 54 of the body over the blocks and the carried rows. -/
def w_54 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S1x128 .f32 :=
  k0_pay90 (View.ld x3 (Rect.unit (k0_off3 i) S1x1x128.size (k0_off3_inb i)))

/-- Value 55 of the body over the blocks and the carried rows. -/
def w_55 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S1x128 .f32 :=
  k0_pay91 (View.ld x4 (Rect.unit (k0_off3 i) S1x1x128.size (k0_off3_inb i)))

/-- Value 56 of the body over the blocks and the carried rows. -/
def w_56 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : Vec F S1x1x128 .f32 :=
  View.ld x5 (Rect.unit (k0_off3 i) S1x1x128.size (k0_off3_inb i))

/-- Value 57 of the body over the blocks and the carried rows. -/
def w_57 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S1x128 .f32 :=
  k0_pay92 (w_56 i x0 x1 x2 x3 x4 x5 x10 xs1 xs2 xs3 xs4 xs5)

/-- Value 58 of the body over the blocks and the carried rows. -/
def w_58 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .bf16 :=
  k0_pay93 (w_42 i x0 x1 x2 x3 x4 x5 x10 xs1 xs2 xs3 xs4 xs5)

/-- Value 59 of the body over the blocks and the carried rows. -/
def w_59 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .bf16 :=
  k0_pay94 (w_43 i x0 x1 x2 x3 x4 x5 x10 xs1 xs2 xs3 xs4 xs5)

/-- Value 60 of the body over the blocks and the carried rows. -/
def w_60 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .bf16 :=
  k0_pay95 (w_44 i x0 x1 x2 x3 x4 x5 x10 xs1 xs2 xs3 xs4 xs5)

/-- Value 61 of the body over the blocks and the carried rows. -/
def w_61 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .bf16 :=
  k0_pay96 (w_45 i x0 x1 x2 x3 x4 x5 x10 xs1 xs2 xs3 xs4 xs5)

/-- Value 62 of the body over the blocks and the carried rows. -/
def w_62 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x512 .bf16 :=
  k0_pay101 (w_42 i x0 x1 x2 x3 x4 x5 x10 xs1 xs2 xs3 xs4 xs5) (w_43 i x0 x1 x2 x3 x4 x5 x10 xs1 xs2 xs3 xs4 xs5) (w_44 i x0 x1 x2 x3 x4 x5 x10 xs1 xs2 xs3 xs4 xs5) (w_45 i x0 x1 x2 x3 x4 x5 x10 xs1 xs2 xs3 xs4 xs5)

/-- Value 63 of the body over the blocks and the carried rows. -/
def w_63 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x512 .bf16 :=
  k0_pay102 (w_46 i x0 x1 x2 x3 x4 x5 x10 xs1 xs2 xs3 xs4 xs5) (w_47 i x0 x1 x2 x3 x4 x5 x10 xs1 xs2 xs3 xs4 xs5) (w_48 i x0 x1 x2 x3 x4 x5 x10 xs1 xs2 xs3 xs4 xs5) (w_49 i x0 x1 x2 x3 x4 x5 x10 xs1 xs2 xs3 xs4 xs5)

/-- Value 64 of the body over the blocks and the carried rows. -/
def w_64 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x512 .fp8e4m3 :=
  k0_pay103 (w_50 i x0 x1 x2 x3 x4 x5 x10 xs1 xs2 xs3 xs4 xs5) (w_51 i x0 x1 x2 x3 x4 x5 x10 xs1 xs2 xs3 xs4 xs5) (w_52 i x0 x1 x2 x3 x4 x5 x10 xs1 xs2 xs3 xs4 xs5) (w_53 i x0 x1 x2 x3 x4 x5 x10 xs1 xs2 xs3 xs4 xs5)

/-- Value 65 of the body over the blocks and the carried rows. -/
def w_65 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S128x64 .fp8e4m3 :=
  k0_pay104 (w_46 i x0 x1 x2 x3 x4 x5 x10 xs1 xs2 xs3 xs4 xs5)

/-- Value 66 of the body over the blocks and the carried rows. -/
def w_66 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S128x64 .fp8e4m3 :=
  k0_pay105 (w_47 i x0 x1 x2 x3 x4 x5 x10 xs1 xs2 xs3 xs4 xs5)

/-- Value 67 of the body over the blocks and the carried rows. -/
def w_67 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S128x64 .fp8e4m3 :=
  k0_pay106 (w_48 i x0 x1 x2 x3 x4 x5 x10 xs1 xs2 xs3 xs4 xs5)

/-- Value 68 of the body over the blocks and the carried rows. -/
def w_68 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S128x64 .fp8e4m3 :=
  k0_pay107 (w_49 i x0 x1 x2 x3 x4 x5 x10 xs1 xs2 xs3 xs4 xs5)

/-- Value 69 of the body over the blocks and the carried rows. -/
def w_69 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S1x128 .f32 :=
  k0_pay108 (View.ld xs1 (Rect.unit (k0_off4 i) S1x1x128.size (k0_off4_inb i)))

/-- Value 70 of the body over the blocks and the carried rows. -/
def w_70 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S1x128 .f32 :=
  k0_pay109 (w_54 i x0 x1 x2 x3 x4 x5 x10 xs1 xs2 xs3 xs4 xs5) (w_55 i x0 x1 x2 x3 x4 x5 x10 xs1 xs2 xs3 xs4 xs5)

/-- Value 71 of the body over the blocks and the carried rows. -/
def w_71 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S128x128 .f32 :=
  k0_pay111 (iota Kind.tc S128x128 32 [0] iota_S128x128_d0_w32) (iota Kind.tc S128x128 32 [1] iota_S128x128_d1_w32) (w_54 i x0 x1 x2 x3 x4 x5 x10 xs1 xs2 xs3 xs4 xs5) (w_55 i x0 x1 x2 x3 x4 x5 x10 xs1 xs2 xs3 xs4 xs5) (View.ld xs1 (Rect.unit (k0_off4 i) S1x1x128.size (k0_off4_inb i))) (View.ld xs3 (Rect.unit (k0_off4 i) S1x1x128.size (k0_off4_inb i))) (View.ld xs2 (Rect.unit (k0_off4 i) S1x1x128.size (k0_off4_inb i)))

/-- Value 72 of the body over the blocks and the carried rows. -/
def w_72 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x160 .f32 :=
  k0_pay112 (w_40 i x0 x1 x2 x3 x4 x5 x10 xs1 xs2 xs3 xs4 xs5) (w_41 i x0 x1 x2 x3 x4 x5 x10 xs1 xs2 xs3 xs4 xs5) (View.ld xs4 (Rect.unit (k0_off4 i) S1x1x128.size (k0_off4_inb i)))

/-- Value 73 of the body over the blocks and the carried rows. -/
def w_73 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x512 .bf16 :=
  k0_pay113 (w_40 i x0 x1 x2 x3 x4 x5 x10 xs1 xs2 xs3 xs4 xs5) (w_41 i x0 x1 x2 x3 x4 x5 x10 xs1 xs2 xs3 xs4 xs5) (w_57 i x0 x1 x2 x3 x4 x5 x10 xs1 xs2 xs3 xs4 xs5) (w_62 i x0 x1 x2 x3 x4 x5 x10 xs1 xs2 xs3 xs4 xs5) (w_64 i x0 x1 x2 x3 x4 x5 x10 xs1 xs2 xs3 xs4 xs5) (w_65 i x0 x1 x2 x3 x4 x5 x10 xs1 xs2 xs3 xs4 xs5) (w_66 i x0 x1 x2 x3 x4 x5 x10 xs1 xs2 xs3 xs4 xs5) (w_67 i x0 x1 x2 x3 x4 x5 x10 xs1 xs2 xs3 xs4 xs5) (w_68 i x0 x1 x2 x3 x4 x5 x10 xs1 xs2 xs3 xs4 xs5) (w_69 i x0 x1 x2 x3 x4 x5 x10 xs1 xs2 xs3 xs4 xs5) (k0_pay110 (iota Kind.tc S128x128 32 [0] iota_S128x128_d0_w32) (iota Kind.tc S128x128 32 [1] iota_S128x128_d1_w32)) (w_71 i x0 x1 x2 x3 x4 x5 x10 xs1 xs2 xs3 xs4 xs5) (View.ld xs4 (Rect.unit (k0_off4 i) S1x1x128.size (k0_off4_inb i)))

/-- Value 74 of the body over the blocks and the carried rows. -/
def w_74 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S160x128 .bf16 :=
  k0_pay115 (w_40 i x0 x1 x2 x3 x4 x5 x10 xs1 xs2 xs3 xs4 xs5) (w_41 i x0 x1 x2 x3 x4 x5 x10 xs1 xs2 xs3 xs4 xs5) (w_57 i x0 x1 x2 x3 x4 x5 x10 xs1 xs2 xs3 xs4 xs5) (w_62 i x0 x1 x2 x3 x4 x5 x10 xs1 xs2 xs3 xs4 xs5) (w_64 i x0 x1 x2 x3 x4 x5 x10 xs1 xs2 xs3 xs4 xs5) (w_65 i x0 x1 x2 x3 x4 x5 x10 xs1 xs2 xs3 xs4 xs5) (w_66 i x0 x1 x2 x3 x4 x5 x10 xs1 xs2 xs3 xs4 xs5) (w_67 i x0 x1 x2 x3 x4 x5 x10 xs1 xs2 xs3 xs4 xs5) (w_68 i x0 x1 x2 x3 x4 x5 x10 xs1 xs2 xs3 xs4 xs5) (w_69 i x0 x1 x2 x3 x4 x5 x10 xs1 xs2 xs3 xs4 xs5) (k0_pay110 (iota Kind.tc S128x128 32 [0] iota_S128x128_d0_w32) (iota Kind.tc S128x128 32 [1] iota_S128x128_d1_w32)) (w_71 i x0 x1 x2 x3 x4 x5 x10 xs1 xs2 xs3 xs4 xs5) (View.ld xs4 (Rect.unit (k0_off4 i) S1x1x128.size (k0_off4_inb i)))

/-- Value 75 of the body over the blocks and the carried rows. -/
def w_75 (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : FVec F S64x160 .f32 :=
  k0_pay119 (w_58 i x0 x1 x2 x3 x4 x5 x10 xs1 xs2 xs3 xs4 xs5) (w_59 i x0 x1 x2 x3 x4 x5 x10 xs1 xs2 xs3 xs4 xs5) (w_60 i x0 x1 x2 x3 x4 x5 x10 xs1 xs2 xs3 xs4 xs5) (w_61 i x0 x1 x2 x3 x4 x5 x10 xs1 xs2 xs3 xs4 xs5) (w_63 i x0 x1 x2 x3 x4 x5 x10 xs1 xs2 xs3 xs4 xs5) (w_69 i x0 x1 x2 x3 x4 x5 x10 xs1 xs2 xs3 xs4 xs5) (w_70 i x0 x1 x2 x3 x4 x5 x10 xs1 xs2 xs3 xs4 xs5) (w_72 i x0 x1 x2 x3 x4 x5 x10 xs1 xs2 xs3 xs4 xs5) (View.ld xs5 (Rect.unit (k0_off4 i) S1x1x128.size (k0_off4_inb i)))

/-- What the body leaves in the first output's block. -/
def bodyY (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : Vec F S1x1x4x160x256 .bf16 :=
  View.canon (Val := Elt F) [⟨Rect.unit ![0, 0, 3, 0, 128] ![1, 1, 1, 160, 128] inb_S1x1x4x160x256_S1x1x1x160x128_0_0_3_0_128, k0_pay118 (w_73 i x0 x1 x2 x3 x4 x5 x10 xs1 xs2 xs3 xs4 xs5)⟩,
    ⟨Rect.unit ![0, 0, 2, 0, 128] ![1, 1, 1, 160, 128] inb_S1x1x4x160x256_S1x1x1x160x128_0_0_2_0_128, k0_pay117 (w_73 i x0 x1 x2 x3 x4 x5 x10 xs1 xs2 xs3 xs4 xs5)⟩,
    ⟨Rect.unit ![0, 0, 1, 0, 128] ![1, 1, 1, 160, 128] inb_S1x1x4x160x256_S1x1x1x160x128_0_0_1_0_128, k0_pay116 (w_74 i x0 x1 x2 x3 x4 x5 x10 xs1 xs2 xs3 xs4 xs5)⟩,
    ⟨Rect.unit ![0, 0, 0, 0, 128] ![1, 1, 1, 160, 128] inb_S1x1x4x160x256_S1x1x1x160x128_0_0_0_0_128, k0_pay114 (w_40 i x0 x1 x2 x3 x4 x5 x10 xs1 xs2 xs3 xs4 xs5) (w_41 i x0 x1 x2 x3 x4 x5 x10 xs1 xs2 xs3 xs4 xs5) (w_57 i x0 x1 x2 x3 x4 x5 x10 xs1 xs2 xs3 xs4 xs5) (w_62 i x0 x1 x2 x3 x4 x5 x10 xs1 xs2 xs3 xs4 xs5) (w_64 i x0 x1 x2 x3 x4 x5 x10 xs1 xs2 xs3 xs4 xs5) (w_65 i x0 x1 x2 x3 x4 x5 x10 xs1 xs2 xs3 xs4 xs5) (w_66 i x0 x1 x2 x3 x4 x5 x10 xs1 xs2 xs3 xs4 xs5) (w_67 i x0 x1 x2 x3 x4 x5 x10 xs1 xs2 xs3 xs4 xs5) (w_68 i x0 x1 x2 x3 x4 x5 x10 xs1 xs2 xs3 xs4 xs5) (w_69 i x0 x1 x2 x3 x4 x5 x10 xs1 xs2 xs3 xs4 xs5) (k0_pay110 (iota Kind.tc S128x128 32 [0] iota_S128x128_d0_w32) (iota Kind.tc S128x128 32 [1] iota_S128x128_d1_w32)) (w_71 i x0 x1 x2 x3 x4 x5 x10 xs1 xs2 xs3 xs4 xs5) (View.ld xs4 (Rect.unit (k0_off4 i) ![1, 1, 128] (k0_off4_inb i)))⟩,
    ⟨Rect.unit ![0, 0, 3, 0, 0] ![1, 1, 1, 160, 128] inb_S1x1x4x160x256_S1x1x1x160x128_0_0_3_0_0, k0_pay69 (w_34 i x0 x1 x2 x3 x4 x5 x10 xs1 xs2 xs3 xs4 xs5)⟩,
    ⟨Rect.unit ![0, 0, 2, 0, 0] ![1, 1, 1, 160, 128] inb_S1x1x4x160x256_S1x1x1x160x128_0_0_2_0_0, k0_pay68 (w_35 i x0 x1 x2 x3 x4 x5 x10 xs1 xs2 xs3 xs4 xs5)⟩,
    ⟨Rect.unit ![0, 0, 1, 0, 0] ![1, 1, 1, 160, 128] inb_S1x1x4x160x256_S1x1x1x160x128_0_0_1_0_0, k0_pay66 (w_0 i x0 x1 x2 x3 x4 x5 x10 xs1 xs2 xs3 xs4 xs5) (w_15 i x0 x1 x2 x3 x4 x5 x10 xs1 xs2 xs3 xs4 xs5) (w_24 i x0 x1 x2 x3 x4 x5 x10 xs1 xs2 xs3 xs4 xs5) (w_26 i x0 x1 x2 x3 x4 x5 x10 xs1 xs2 xs3 xs4 xs5) (w_27 i x0 x1 x2 x3 x4 x5 x10 xs1 xs2 xs3 xs4 xs5) (w_28 i x0 x1 x2 x3 x4 x5 x10 xs1 xs2 xs3 xs4 xs5) (w_29 i x0 x1 x2 x3 x4 x5 x10 xs1 xs2 xs3 xs4 xs5) (w_30 i x0 x1 x2 x3 x4 x5 x10 xs1 xs2 xs3 xs4 xs5) (w_31 i x0 x1 x2 x3 x4 x5 x10 xs1 xs2 xs3 xs4 xs5) (k0_pay61 (iota Kind.tc S128x128 32 [0] iota_S128x128_d0_w32) (iota Kind.tc S128x128 32 [1] iota_S128x128_d1_w32)) (w_33 i x0 x1 x2 x3 x4 x5 x10 xs1 xs2 xs3 xs4 xs5) k0_pay63⟩,
    ⟨Rect.unit ![0, 0, 0, 0, 0] ![1, 1, 1, 160, 128] inb_S1x1x4x160x256_S1x1x1x160x128_0_0_0_0_0, k0_pay65 (w_0 i x0 x1 x2 x3 x4 x5 x10 xs1 xs2 xs3 xs4 xs5) (w_15 i x0 x1 x2 x3 x4 x5 x10 xs1 xs2 xs3 xs4 xs5) (w_24 i x0 x1 x2 x3 x4 x5 x10 xs1 xs2 xs3 xs4 xs5) (w_26 i x0 x1 x2 x3 x4 x5 x10 xs1 xs2 xs3 xs4 xs5) (w_27 i x0 x1 x2 x3 x4 x5 x10 xs1 xs2 xs3 xs4 xs5) (w_28 i x0 x1 x2 x3 x4 x5 x10 xs1 xs2 xs3 xs4 xs5) (w_29 i x0 x1 x2 x3 x4 x5 x10 xs1 xs2 xs3 xs4 xs5) (w_30 i x0 x1 x2 x3 x4 x5 x10 xs1 xs2 xs3 xs4 xs5) (w_31 i x0 x1 x2 x3 x4 x5 x10 xs1 xs2 xs3 xs4 xs5) (k0_pay61 (iota Kind.tc S128x128 32 [0] iota_S128x128_d0_w32) (iota Kind.tc S128x128 32 [1] iota_S128x128_d1_w32)) (w_33 i x0 x1 x2 x3 x4 x5 x10 xs1 xs2 xs3 xs4 xs5) k0_pay63⟩]

/-- What the body leaves in the second output's block. -/
def bodyS (i : grid0.Coords) (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32) : Vec F S1x1x64x160 .f32 :=
  k0_pay1 (w_75 i x0 x1 x2 x3 x4 x5 x10 xs1 xs2 xs3 xs4 xs5)

theorem hz4 : (![0, 0, 0, 0] : Fin 4 → Nat) = fun _ => 0 := funext fun a => by fin_cases a <;> rfl

theorem hz3 : (![0, 0, 0] : Fin 3 → Nat) = fun _ => 0 := funext fun a => by fin_cases a <;> rfl

theorem hz2 : (![0, 0] : Fin 2 → Nat) = fun _ => 0 := funext fun a => by fin_cases a <;> rfl

set_option maxHeartbeats 1000000 in
theorem out0_B_11_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : ¬cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32)  :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs1 xs2 xs3 xs4 xs5 = bodyY i x0 x1 x2 x3 x4 x5 x10 xs1 xs2 xs3 xs4 xs5 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs1 xs2 xs3 xs4 xs5)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, harg19.read_unread, harg20.read_unread, bodyY, w_0, w_1, w_2, w_3, w_4, w_5, w_6, w_7, w_8, w_9, w_10, w_11, w_12, w_13, w_14, w_15, w_16, w_17, w_18, w_19, w_20, w_21, w_22, w_23, w_24, w_25, w_26, w_27, w_28, w_29, w_30, w_31, w_32, w_33, w_34, w_35, w_36, w_37, w_38, w_39, w_40, w_41, w_42, w_43, w_44, w_45, w_46, w_47, w_48, w_49, w_50, w_51, w_52, w_53, w_54, w_55, w_56, w_57, w_58, w_59, w_60, w_61, w_62, w_63, w_64, w_65, w_66, w_67, w_68, w_69, w_70, w_71, w_72, w_73, w_74, w_75]
  rfl

set_option maxHeartbeats 1000000 in
theorem out0_B_12_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : ¬cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32)  :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs1 xs2 xs3 xs4 xs5 = bodyS i x0 x1 x2 x3 x4 x5 x10 xs1 xs2 xs3 xs4 xs5 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs1 xs2 xs3 xs4 xs5)]
  unfold kernelRun0_B
  dsimp only
  sl_unfold_words
  rw [View.canon_unit_zero (S := S1x1x64x160) hz4]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, harg19.read_unread, harg20.read_unread, bodyS, w_0, w_1, w_2, w_3, w_4, w_5, w_6, w_7, w_8, w_9, w_10, w_11, w_12, w_13, w_14, w_15, w_16, w_17, w_18, w_19, w_20, w_21, w_22, w_23, w_24, w_25, w_26, w_27, w_28, w_29, w_30, w_31, w_32, w_33, w_34, w_35, w_36, w_37, w_38, w_39, w_40, w_41, w_42, w_43, w_44, w_45, w_46, w_47, w_48, w_49, w_50, w_51, w_52, w_53, w_54, w_55, w_56, w_57, w_58, w_59, w_60, w_61, w_62, w_63, w_64, w_65, w_66, w_67, w_68, w_69, w_70, w_71, w_72, w_73, w_74, w_75]
  rfl

/-- What the first head leaves in carried scratch 1. -/
def row1 (x6 : Vec F S1x20x256 .f32) (x7 : Vec F S20x1 .f32) (x8 : Vec F S20x1 .f32) (x9 : Vec F S1x20x256 .f32) : Vec F S2x20x128 .f32 :=
  View.canon (Val := Elt F) [⟨Rect.unit ![1, 0, 0] S1x20x128.size inb_S2x20x128_S1x20x128_1_0_0, k0_pay21 k0_pay24 (k0_pay3 x6 x7 x8)⟩,
    ⟨Rect.unit ![0, 0, 0] S1x20x128.size inb_S2x20x128_S1x20x128_0_0_0, k0_pay12 k0_pay24 (k0_pay3 x6 x7 x8)⟩]

/-- What the first head leaves in carried scratch 2. -/
def row2 (x6 : Vec F S1x20x256 .f32) (x7 : Vec F S20x1 .f32) (x8 : Vec F S20x1 .f32) (x9 : Vec F S1x20x256 .f32) : Vec F S2x20x128 .f32 :=
  View.canon (Val := Elt F) [⟨Rect.unit ![1, 0, 0] S1x20x128.size inb_S2x20x128_S1x20x128_1_0_0, k0_pay18 (k0_pay5 x6 x7 x9)⟩,
    ⟨Rect.unit ![0, 0, 0] S1x20x128.size inb_S2x20x128_S1x20x128_0_0_0, k0_pay9 (k0_pay8 x6 x7 x9)⟩]

/-- What the first head leaves in carried scratch 3. -/
def row3 (x6 : Vec F S1x20x256 .f32) (x7 : Vec F S20x1 .f32) (x8 : Vec F S20x1 .f32) (x9 : Vec F S1x20x256 .f32) : Vec F S2x20x128 .f32 :=
  View.canon (Val := Elt F) [⟨Rect.unit ![1, 0, 0] S1x20x128.size inb_S2x20x128_S1x20x128_1_0_0, k0_pay26 (k0_pay5 x6 x7 x9) (iota Kind.tc S1x128 32 [1] iota_S1x128_d1_w32) (k0_pay22 (k0_pay6 x6 x7 x9)) k0_pay23⟩,
    ⟨Rect.unit ![0, 0, 0] S1x20x128.size inb_S2x20x128_S1x20x128_0_0_0, k0_pay14 (k0_pay5 x6 x7 x9) (k0_pay6 x6 x7 x9) (iota Kind.tc S1x128 32 [1] iota_S1x128_d1_w32)⟩]

/-- What the first head leaves in carried scratch 4. -/
def row4 (x6 : Vec F S1x20x256 .f32) (x7 : Vec F S20x1 .f32) (x8 : Vec F S20x1 .f32) (x9 : Vec F S1x20x256 .f32) : Vec F S2x20x128 .f32 :=
  View.canon (Val := Elt F) [⟨Rect.unit ![1, 0, 0] S1x20x128.size inb_S2x20x128_S1x20x128_1_0_0, k0_pay19 (k0_pay6 x6 x7 x9)⟩,
    ⟨Rect.unit ![0, 0, 0] S1x20x128.size inb_S2x20x128_S1x20x128_0_0_0, k0_pay10 (k0_pay6 x6 x7 x9)⟩]

/-- What the first head leaves in carried scratch 5. -/
def row5 (x6 : Vec F S1x20x256 .f32) (x7 : Vec F S20x1 .f32) (x8 : Vec F S20x1 .f32) (x9 : Vec F S1x20x256 .f32) : Vec F S2x20x128 .f32 :=
  View.canon (Val := Elt F) [⟨Rect.unit ![1, 0, 0] S1x20x128.size inb_S2x20x128_S1x20x128_1_0_0, k0_pay27 (k0_pay5 x6 x7 x9) (iota Kind.tc S1x128 32 [1] iota_S1x128_d1_w32) (k0_pay20 k0_pay24 (k0_pay3 x6 x7 x8)) (k0_pay22 (k0_pay6 x6 x7 x9)) k0_pay23⟩,
    ⟨Rect.unit ![0, 0, 0] S1x20x128.size inb_S2x20x128_S1x20x128_0_0_0, k0_pay16 (k0_pay13 (k0_pay5 x6 x7 x9) (k0_pay6 x6 x7 x9) (iota Kind.tc S1x128 32 [1] iota_S1x128_d1_w32)) (k0_pay15 k0_pay24 (k0_pay3 x6 x7 x8))⟩]

theorem sout0_A_1_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32)  :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = row1 x6 x7 x8 x9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x20x256) hz3, View.ld_unit_zero (S := S20x1) hz2, row1]
  try rfl

theorem sout0_A_2_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32)  :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = row2 x6 x7 x8 x9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x20x256) hz3, View.ld_unit_zero (S := S20x1) hz2, row2]
  try rfl

theorem sout0_A_3_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32)  :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = row3 x6 x7 x8 x9 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x20x256) hz3, View.ld_unit_zero (S := S20x1) hz2, row3]
  try rfl

theorem sout0_A_4_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32)  :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = row4 x6 x7 x8 x9 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x20x256) hz3, View.ld_unit_zero (S := S20x1) hz2, row4]
  try rfl

theorem sout0_A_5_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32)  :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = row5 x6 x7 x8 x9 := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x20x256) hz3, View.ld_unit_zero (S := S20x1) hz2, row5]
  try rfl

set_option maxHeartbeats 2000000 in
theorem out0_A_11_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32)  :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = bodyY i x0 x1 x2 x3 x4 x5 x10 (row1 x6 x7 x8 x9) (row2 x6 x7 x8 x9) (row3 x6 x7 x8 x9) (row4 x6 x7 x8 x9) (row5 x6 x7 x8 x9) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  sl_unfold_words
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, View.ld_unit_zero (S := S1x20x256) hz3, View.ld_unit_zero (S := S20x1) hz2, bodyY, row1, row2, row3, row4, row5, w_0, w_1, w_2, w_3, w_4, w_5, w_6, w_7, w_8, w_9, w_10, w_11, w_12, w_13, w_14, w_15, w_16, w_17, w_18, w_19, w_20, w_21, w_22, w_23, w_24, w_25, w_26, w_27, w_28, w_29, w_30, w_31, w_32, w_33, w_34, w_35, w_36, w_37, w_38, w_39, w_40, w_41, w_42, w_43, w_44, w_45, w_46, w_47, w_48, w_49, w_50, w_51, w_52, w_53, w_54, w_55, w_56, w_57, w_58, w_59, w_60, w_61, w_62, w_63, w_64, w_65, w_66, w_67, w_68, w_69, w_70, w_71, w_72, w_73, w_74, w_75]
  rfl

set_option maxHeartbeats 2000000 in
theorem out0_A_12_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32)  :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = bodyS i x0 x1 x2 x3 x4 x5 x10 (row1 x6 x7 x8 x9) (row2 x6 x7 x8 x9) (row3 x6 x7 x8 x9) (row4 x6 x7 x8 x9) (row5 x6 x7 x8 x9) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  sl_unfold_words
  rw [View.canon_unit_zero (S := S1x1x64x160) hz4]
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, View.ld_unit_zero (S := S1x20x256) hz3, View.ld_unit_zero (S := S20x1) hz2, bodyS, row1, row2, row3, row4, row5, w_0, w_1, w_2, w_3, w_4, w_5, w_6, w_7, w_8, w_9, w_10, w_11, w_12, w_13, w_14, w_15, w_16, w_17, w_18, w_19, w_20, w_21, w_22, w_23, w_24, w_25, w_26, w_27, w_28, w_29, w_30, w_31, w_32, w_33, w_34, w_35, w_36, w_37, w_38, w_39, w_40, w_41, w_42, w_43, w_44, w_45, w_46, w_47, w_48, w_49, w_50, w_51, w_52, w_53, w_54, w_55, w_56, w_57, w_58, w_59, w_60, w_61, w_62, w_63, w_64, w_65, w_66, w_67, w_68, w_69, w_70, w_71, w_72, w_73, w_74, w_75]
  rfl

theorem sout0_B_1_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : ¬cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32)  :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs1 xs2 xs3 xs4 xs5 = xs1 := by
  unfold sout0_B_1
  first | exact harg16.read_unread _ | rfl | (simp only [harg16.read_unread])

theorem sout0_B_2_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : ¬cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32)  :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs1 xs2 xs3 xs4 xs5 = xs2 := by
  unfold sout0_B_2
  first | exact harg17.read_unread _ | rfl | (simp only [harg17.read_unread])

theorem sout0_B_3_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : ¬cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32)  :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs1 xs2 xs3 xs4 xs5 = xs3 := by
  unfold sout0_B_3
  first | exact harg18.read_unread _ | rfl | (simp only [harg18.read_unread])

theorem sout0_B_4_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : ¬cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32)  :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs1 xs2 xs3 xs4 xs5 = xs4 := by
  unfold sout0_B_4
  first | exact harg19.read_unread _ | rfl | (simp only [harg19.read_unread])

theorem sout0_B_5_eq (c : Dev nD) (i : grid0.Coords) (arg2 : Memref sig .tc .vmem S1x1x4x160x256 .fp8e4m3) (harg2 : arg2.IsWhole) (arg3 : Memref sig .tc .vmem S1x1x4x64x256 .fp8e4m3) (harg3 : arg3.IsWhole) (arg4 : Memref sig .tc .vmem S1x1x4x64x256 .fp8e4m3) (harg4 : arg4.IsWhole) (arg5 : Memref sig .tc .vmem S1x20x256 .f32) (harg5 : arg5.IsWhole) (arg6 : Memref sig .tc .vmem S1x20x256 .f32) (harg6 : arg6.IsWhole) (arg7 : Memref sig .tc .vmem S1x20x256 .f32) (harg7 : arg7.IsWhole) (arg8 : Memref sig .tc .vmem S1x20x256 .f32) (harg8 : arg8.IsWhole) (arg9 : Memref sig .tc .vmem S20x1 .f32) (harg9 : arg9.IsWhole) (arg10 : Memref sig .tc .vmem S20x1 .f32) (harg10 : arg10.IsWhole) (arg11 : Memref sig .tc .vmem S1x20x256 .f32) (harg11 : arg11.IsWhole) (arg12 : Memref sig .tc .vmem S1x1x64x160 .f32) (harg12 : arg12.IsWhole) (arg13 : Memref sig .tc .vmem S1x1x4x160x256 .bf16) (harg13 : arg13.IsWhole) (arg14 : Memref sig .tc .vmem S1x1x64x160 .f32) (harg14 : arg14.IsWhole) (arg15 : Memref sig .tc .vmem S2x20x128 .f32) (harg15 : arg15.IsWhole) (arg16 : Memref sig .tc .vmem S2x20x128 .f32) (harg16 : arg16.IsWhole) (arg17 : Memref sig .tc .vmem S2x20x128 .f32) (harg17 : arg17.IsWhole) (arg18 : Memref sig .tc .vmem S2x20x128 .f32) (harg18 : arg18.IsWhole) (arg19 : Memref sig .tc .vmem S2x20x128 .f32) (harg19 : arg19.IsWhole) (arg20 : Memref sig .tc .vmem S2x20x128 .f32) (harg20 : arg20.IsWhole) (hc0 : ¬cond0_0 i)     (x0 : Vec F S1x1x4x160x256 .fp8e4m3) (x1 : Vec F S1x1x4x64x256 .fp8e4m3) (x2 : Vec F S1x1x4x64x256 .fp8e4m3) (x3 : Vec F S1x20x256 .f32) (x4 : Vec F S1x20x256 .f32) (x5 : Vec F S1x20x256 .f32) (x6 : Vec F S1x20x256 .f32) (x7 : Vec F S20x1 .f32) (x8 : Vec F S20x1 .f32) (x9 : Vec F S1x20x256 .f32) (x10 : Vec F S1x1x64x160 .f32) (xs1 : Vec F S2x20x128 .f32) (xs2 : Vec F S2x20x128 .f32) (xs3 : Vec F S2x20x128 .f32) (xs4 : Vec F S2x20x128 .f32) (xs5 : Vec F S2x20x128 .f32)  :
    sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs1 xs2 xs3 xs4 xs5 = xs5 := by
  unfold sout0_B_5
  first | exact harg20.read_unread _ | rfl | (simp only [harg20.read_unread])

end Cert.KernelIdeal.Scan
-- ==== Proof.Scan.Load.lean ====
module

public import proofs.«01_k».proof.Proof.Scan.Body
public import proofs.«01_k».proof.Proof.Scan.Spec
public import Idealize.ShloMosaic.Lib.Pointwise

@[expose] public section
set_option maxRecDepth 16384

noncomputable section
open Idealize.ShloMosaic Idealize.ShloMosaic.TcCoe
namespace Cert.KernelIdeal.Scan
open Cert.KernelIdeal Cert.KernelIdeal.Gen

theorem off1 : ∀ i : grid0.Coords, k0_off1 i = ![0, (i 1).val, 0] := by decide +kernel
theorem off2 : ∀ i : grid0.Coords, k0_off2 i = ![0, (i 1).val, 0] := by decide +kernel
theorem off3 : ∀ i : grid0.Coords, k0_off3 i = ![0, (i 1).val, 128] := by decide +kernel
theorem off4 : ∀ i : grid0.Coords, k0_off4 i = ![1, (i 1).val, 0] := by decide +kernel

end Cert.KernelIdeal.Scan
-- ==== Proof.Scan.Blk.lean ====
module

public import proofs.«01_k».proof.Proof.Scan.Load
public import proofs.«01_k».proof.Proof.Gen.KernelIdeal.Value
public import Idealize.ShloMosaic.Lib.Pointwise

@[expose] public section
set_option maxRecDepth 16384

noncomputable section
open Idealize.ShloMosaic Idealize.ShloMosaic.TcCoe
namespace Cert.KernelIdeal.Scan
open Cert.Scan Cert.KernelIdeal Cert.KernelIdeal.Gen

variable (m : (ℓ : Loc nD τ sig) → Buf (Elt Ideal) ℓ)

/-- The batch and the head of a point. -/
theorem coords_eq : ∀ t : Fin grid0.N, (grid0.coords t 0).val = t.val / 20 ∧ (grid0.coords t 1).val = t.val % 20 := by decide +kernel

theorem wix0 : ∀ t : Fin cfg0.N, win0_0.index t (0 : Fin 5) = t.val / 20 ∧ win0_0.index t (1 : Fin 5) = t.val % 20 ∧ win0_0.index t (2 : Fin 5) = 0 ∧ win0_0.index t (3 : Fin 5) = 0 ∧ win0_0.index t (4 : Fin 5) = 0 := by decide +kernel

theorem iblk0 (c : Dev nD) (t : Fin cfg0.N) (q : Fin 6) (h : Fin 20) (hq : t.val / 20 = q.val) (hh : t.val % 20 = h.val) (a2 : Fin 4) (a3 : Fin 160) (a4 : Fin 256) :
    (iblk m c 0 t : Vec Ideal S1x1x4x160x256 .fp8e4m3) (ix5 0 0 a2 a3 a4) = (V m c main_arg0 : Vec Ideal S6x20x4x160x256 .fp8e4m3) (ix5 q h a2 a3 a4) := by
  show (V m c main_arg0 : Vec Ideal S6x20x4x160x256 .fp8e4m3) (((cfg0.win 0).blk t).view.emb (ix5 0 0 a2 a3 a4)) = _
  obtain ⟨e0, e1, e2, e3, e4⟩ := wix0 t
  refine congrArg (V m c main_arg0 : Vec Ideal S6x20x4x160x256 .fp8e4m3) ?_
  funext a; apply Fin.ext
  match a with
  | ⟨0, _⟩ =>
               show (((cfg0.win 0).blk t).view.emb (ix5 0 0 a2 a3 a4) (0 : Fin 5)).val = _
               rw [show (((cfg0.win 0).blk t).view.emb (ix5 0 0 a2 a3 a4) (0 : Fin 5)).val = win0_0.index t (0 : Fin 5) * 1 + 1 * ((ix5 0 0 a2 a3 a4 : S1x1x4x160x256.Idx) (0 : Fin 5)).val from rfl, e0]
               show _ * 1 + 1 * 0 = q.val
               omega
  | ⟨1, _⟩ =>
               show (((cfg0.win 0).blk t).view.emb (ix5 0 0 a2 a3 a4) (1 : Fin 5)).val = _
               rw [show (((cfg0.win 0).blk t).view.emb (ix5 0 0 a2 a3 a4) (1 : Fin 5)).val = win0_0.index t (1 : Fin 5) * 1 + 1 * ((ix5 0 0 a2 a3 a4 : S1x1x4x160x256.Idx) (1 : Fin 5)).val from rfl, e1]
               show _ * 1 + 1 * 0 = h.val
               omega
  | ⟨2, _⟩ =>
               show (((cfg0.win 0).blk t).view.emb (ix5 0 0 a2 a3 a4) (2 : Fin 5)).val = _
               rw [show (((cfg0.win 0).blk t).view.emb (ix5 0 0 a2 a3 a4) (2 : Fin 5)).val = win0_0.index t (2 : Fin 5) * 4 + 1 * ((ix5 0 0 a2 a3 a4 : S1x1x4x160x256.Idx) (2 : Fin 5)).val from rfl, e2]
               show _ * 4 + 1 * a2.val = a2.val
               omega
  | ⟨3, _⟩ =>
               show (((cfg0.win 0).blk t).view.emb (ix5 0 0 a2 a3 a4) (3 : Fin 5)).val = _
               rw [show (((cfg0.win 0).blk t).view.emb (ix5 0 0 a2 a3 a4) (3 : Fin 5)).val = win0_0.index t (3 : Fin 5) * 160 + 1 * ((ix5 0 0 a2 a3 a4 : S1x1x4x160x256.Idx) (3 : Fin 5)).val from rfl, e3]
               show _ * 160 + 1 * a3.val = a3.val
               omega
  | ⟨4, _⟩ =>
               show (((cfg0.win 0).blk t).view.emb (ix5 0 0 a2 a3 a4) (4 : Fin 5)).val = _
               rw [show (((cfg0.win 0).blk t).view.emb (ix5 0 0 a2 a3 a4) (4 : Fin 5)).val = win0_0.index t (4 : Fin 5) * 256 + 1 * ((ix5 0 0 a2 a3 a4 : S1x1x4x160x256.Idx) (4 : Fin 5)).val from rfl, e4]
               show _ * 256 + 1 * a4.val = a4.val
               omega

theorem wix1 : ∀ t : Fin cfg0.N, win0_1.index t (0 : Fin 5) = t.val / 20 ∧ win0_1.index t (1 : Fin 5) = t.val % 20 ∧ win0_1.index t (2 : Fin 5) = 0 ∧ win0_1.index t (3 : Fin 5) = 0 ∧ win0_1.index t (4 : Fin 5) = 0 := by decide +kernel

theorem iblk1 (c : Dev nD) (t : Fin cfg0.N) (q : Fin 6) (h : Fin 20) (hq : t.val / 20 = q.val) (hh : t.val % 20 = h.val) (a2 : Fin 4) (a3 : Fin 64) (a4 : Fin 256) :
    (iblk m c 1 t : Vec Ideal S1x1x4x64x256 .fp8e4m3) (ix5 0 0 a2 a3 a4) = (V m c main_arg1 : Vec Ideal S6x20x4x64x256 .fp8e4m3) (ix5 q h a2 a3 a4) := by
  show (V m c main_arg1 : Vec Ideal S6x20x4x64x256 .fp8e4m3) (((cfg0.win 1).blk t).view.emb (ix5 0 0 a2 a3 a4)) = _
  obtain ⟨e0, e1, e2, e3, e4⟩ := wix1 t
  refine congrArg (V m c main_arg1 : Vec Ideal S6x20x4x64x256 .fp8e4m3) ?_
  funext a; apply Fin.ext
  match a with
  | ⟨0, _⟩ =>
               show (((cfg0.win 1).blk t).view.emb (ix5 0 0 a2 a3 a4) (0 : Fin 5)).val = _
               rw [show (((cfg0.win 1).blk t).view.emb (ix5 0 0 a2 a3 a4) (0 : Fin 5)).val = win0_1.index t (0 : Fin 5) * 1 + 1 * ((ix5 0 0 a2 a3 a4 : S1x1x4x64x256.Idx) (0 : Fin 5)).val from rfl, e0]
               show _ * 1 + 1 * 0 = q.val
               omega
  | ⟨1, _⟩ =>
               show (((cfg0.win 1).blk t).view.emb (ix5 0 0 a2 a3 a4) (1 : Fin 5)).val = _
               rw [show (((cfg0.win 1).blk t).view.emb (ix5 0 0 a2 a3 a4) (1 : Fin 5)).val = win0_1.index t (1 : Fin 5) * 1 + 1 * ((ix5 0 0 a2 a3 a4 : S1x1x4x64x256.Idx) (1 : Fin 5)).val from rfl, e1]
               show _ * 1 + 1 * 0 = h.val
               omega
  | ⟨2, _⟩ =>
               show (((cfg0.win 1).blk t).view.emb (ix5 0 0 a2 a3 a4) (2 : Fin 5)).val = _
               rw [show (((cfg0.win 1).blk t).view.emb (ix5 0 0 a2 a3 a4) (2 : Fin 5)).val = win0_1.index t (2 : Fin 5) * 4 + 1 * ((ix5 0 0 a2 a3 a4 : S1x1x4x64x256.Idx) (2 : Fin 5)).val from rfl, e2]
               show _ * 4 + 1 * a2.val = a2.val
               omega
  | ⟨3, _⟩ =>
               show (((cfg0.win 1).blk t).view.emb (ix5 0 0 a2 a3 a4) (3 : Fin 5)).val = _
               rw [show (((cfg0.win 1).blk t).view.emb (ix5 0 0 a2 a3 a4) (3 : Fin 5)).val = win0_1.index t (3 : Fin 5) * 64 + 1 * ((ix5 0 0 a2 a3 a4 : S1x1x4x64x256.Idx) (3 : Fin 5)).val from rfl, e3]
               show _ * 64 + 1 * a3.val = a3.val
               omega
  | ⟨4, _⟩ =>
               show (((cfg0.win 1).blk t).view.emb (ix5 0 0 a2 a3 a4) (4 : Fin 5)).val = _
               rw [show (((cfg0.win 1).blk t).view.emb (ix5 0 0 a2 a3 a4) (4 : Fin 5)).val = win0_1.index t (4 : Fin 5) * 256 + 1 * ((ix5 0 0 a2 a3 a4 : S1x1x4x64x256.Idx) (4 : Fin 5)).val from rfl, e4]
               show _ * 256 + 1 * a4.val = a4.val
               omega

theorem wix2 : ∀ t : Fin cfg0.N, win0_2.index t (0 : Fin 5) = t.val / 20 ∧ win0_2.index t (1 : Fin 5) = t.val % 20 ∧ win0_2.index t (2 : Fin 5) = 0 ∧ win0_2.index t (3 : Fin 5) = 0 ∧ win0_2.index t (4 : Fin 5) = 0 := by decide +kernel

theorem iblk2 (c : Dev nD) (t : Fin cfg0.N) (q : Fin 6) (h : Fin 20) (hq : t.val / 20 = q.val) (hh : t.val % 20 = h.val) (a2 : Fin 4) (a3 : Fin 64) (a4 : Fin 256) :
    (iblk m c 2 t : Vec Ideal S1x1x4x64x256 .fp8e4m3) (ix5 0 0 a2 a3 a4) = (V m c main_arg2 : Vec Ideal S6x20x4x64x256 .fp8e4m3) (ix5 q h a2 a3 a4) := by
  show (V m c main_arg2 : Vec Ideal S6x20x4x64x256 .fp8e4m3) (((cfg0.win 2).blk t).view.emb (ix5 0 0 a2 a3 a4)) = _
  obtain ⟨e0, e1, e2, e3, e4⟩ := wix2 t
  refine congrArg (V m c main_arg2 : Vec Ideal S6x20x4x64x256 .fp8e4m3) ?_
  funext a; apply Fin.ext
  match a with
  | ⟨0, _⟩ =>
               show (((cfg0.win 2).blk t).view.emb (ix5 0 0 a2 a3 a4) (0 : Fin 5)).val = _
               rw [show (((cfg0.win 2).blk t).view.emb (ix5 0 0 a2 a3 a4) (0 : Fin 5)).val = win0_2.index t (0 : Fin 5) * 1 + 1 * ((ix5 0 0 a2 a3 a4 : S1x1x4x64x256.Idx) (0 : Fin 5)).val from rfl, e0]
               show _ * 1 + 1 * 0 = q.val
               omega
  | ⟨1, _⟩ =>
               show (((cfg0.win 2).blk t).view.emb (ix5 0 0 a2 a3 a4) (1 : Fin 5)).val = _
               rw [show (((cfg0.win 2).blk t).view.emb (ix5 0 0 a2 a3 a4) (1 : Fin 5)).val = win0_2.index t (1 : Fin 5) * 1 + 1 * ((ix5 0 0 a2 a3 a4 : S1x1x4x64x256.Idx) (1 : Fin 5)).val from rfl, e1]
               show _ * 1 + 1 * 0 = h.val
               omega
  | ⟨2, _⟩ =>
               show (((cfg0.win 2).blk t).view.emb (ix5 0 0 a2 a3 a4) (2 : Fin 5)).val = _
               rw [show (((cfg0.win 2).blk t).view.emb (ix5 0 0 a2 a3 a4) (2 : Fin 5)).val = win0_2.index t (2 : Fin 5) * 4 + 1 * ((ix5 0 0 a2 a3 a4 : S1x1x4x64x256.Idx) (2 : Fin 5)).val from rfl, e2]
               show _ * 4 + 1 * a2.val = a2.val
               omega
  | ⟨3, _⟩ =>
               show (((cfg0.win 2).blk t).view.emb (ix5 0 0 a2 a3 a4) (3 : Fin 5)).val = _
               rw [show (((cfg0.win 2).blk t).view.emb (ix5 0 0 a2 a3 a4) (3 : Fin 5)).val = win0_2.index t (3 : Fin 5) * 64 + 1 * ((ix5 0 0 a2 a3 a4 : S1x1x4x64x256.Idx) (3 : Fin 5)).val from rfl, e3]
               show _ * 64 + 1 * a3.val = a3.val
               omega
  | ⟨4, _⟩ =>
               show (((cfg0.win 2).blk t).view.emb (ix5 0 0 a2 a3 a4) (4 : Fin 5)).val = _
               rw [show (((cfg0.win 2).blk t).view.emb (ix5 0 0 a2 a3 a4) (4 : Fin 5)).val = win0_2.index t (4 : Fin 5) * 256 + 1 * ((ix5 0 0 a2 a3 a4 : S1x1x4x64x256.Idx) (4 : Fin 5)).val from rfl, e4]
               show _ * 256 + 1 * a4.val = a4.val
               omega

theorem wix3 : ∀ t : Fin cfg0.N, win0_3.index t (0 : Fin 3) = t.val / 20 ∧ win0_3.index t (1 : Fin 3) = 0 ∧ win0_3.index t (2 : Fin 3) = 0 := by decide +kernel

theorem iblk3 (c : Dev nD) (t : Fin cfg0.N) (q : Fin 6) (h : Fin 20) (hq : t.val / 20 = q.val) (hh : t.val % 20 = h.val) (a1 : Fin 20) (a2 : Fin 256) :
    (iblk m c 3 t : Vec Ideal S1x20x256 .f32) (ix3 0 a1 a2) = (V m c main_arg3 : Vec Ideal S6x20x256 .f32) (ix3 q a1 a2) := by
  show (V m c main_arg3 : Vec Ideal S6x20x256 .f32) (((cfg0.win 3).blk t).view.emb (ix3 0 a1 a2)) = _
  obtain ⟨e0, e1, e2⟩ := wix3 t
  refine congrArg (V m c main_arg3 : Vec Ideal S6x20x256 .f32) ?_
  funext a; apply Fin.ext
  match a with
  | ⟨0, _⟩ =>
               show (((cfg0.win 3).blk t).view.emb (ix3 0 a1 a2) (0 : Fin 3)).val = _
               rw [show (((cfg0.win 3).blk t).view.emb (ix3 0 a1 a2) (0 : Fin 3)).val = win0_3.index t (0 : Fin 3) * 1 + 1 * ((ix3 0 a1 a2 : S1x20x256.Idx) (0 : Fin 3)).val from rfl, e0]
               show _ * 1 + 1 * 0 = q.val
               omega
  | ⟨1, _⟩ =>
               show (((cfg0.win 3).blk t).view.emb (ix3 0 a1 a2) (1 : Fin 3)).val = _
               rw [show (((cfg0.win 3).blk t).view.emb (ix3 0 a1 a2) (1 : Fin 3)).val = win0_3.index t (1 : Fin 3) * 20 + 1 * ((ix3 0 a1 a2 : S1x20x256.Idx) (1 : Fin 3)).val from rfl, e1]
               show _ * 20 + 1 * a1.val = a1.val
               omega
  | ⟨2, _⟩ =>
               show (((cfg0.win 3).blk t).view.emb (ix3 0 a1 a2) (2 : Fin 3)).val = _
               rw [show (((cfg0.win 3).blk t).view.emb (ix3 0 a1 a2) (2 : Fin 3)).val = win0_3.index t (2 : Fin 3) * 256 + 1 * ((ix3 0 a1 a2 : S1x20x256.Idx) (2 : Fin 3)).val from rfl, e2]
               show _ * 256 + 1 * a2.val = a2.val
               omega

theorem wix4 : ∀ t : Fin cfg0.N, win0_4.index t (0 : Fin 3) = t.val / 20 ∧ win0_4.index t (1 : Fin 3) = 0 ∧ win0_4.index t (2 : Fin 3) = 0 := by decide +kernel

theorem iblk4 (c : Dev nD) (t : Fin cfg0.N) (q : Fin 6) (h : Fin 20) (hq : t.val / 20 = q.val) (hh : t.val % 20 = h.val) (a1 : Fin 20) (a2 : Fin 256) :
    (iblk m c 4 t : Vec Ideal S1x20x256 .f32) (ix3 0 a1 a2) = (V m c main_arg4 : Vec Ideal S6x20x256 .f32) (ix3 q a1 a2) := by
  show (V m c main_arg4 : Vec Ideal S6x20x256 .f32) (((cfg0.win 4).blk t).view.emb (ix3 0 a1 a2)) = _
  obtain ⟨e0, e1, e2⟩ := wix4 t
  refine congrArg (V m c main_arg4 : Vec Ideal S6x20x256 .f32) ?_
  funext a; apply Fin.ext
  match a with
  | ⟨0, _⟩ =>
               show (((cfg0.win 4).blk t).view.emb (ix3 0 a1 a2) (0 : Fin 3)).val = _
               rw [show (((cfg0.win 4).blk t).view.emb (ix3 0 a1 a2) (0 : Fin 3)).val = win0_4.index t (0 : Fin 3) * 1 + 1 * ((ix3 0 a1 a2 : S1x20x256.Idx) (0 : Fin 3)).val from rfl, e0]
               show _ * 1 + 1 * 0 = q.val
               omega
  | ⟨1, _⟩ =>
               show (((cfg0.win 4).blk t).view.emb (ix3 0 a1 a2) (1 : Fin 3)).val = _
               rw [show (((cfg0.win 4).blk t).view.emb (ix3 0 a1 a2) (1 : Fin 3)).val = win0_4.index t (1 : Fin 3) * 20 + 1 * ((ix3 0 a1 a2 : S1x20x256.Idx) (1 : Fin 3)).val from rfl, e1]
               show _ * 20 + 1 * a1.val = a1.val
               omega
  | ⟨2, _⟩ =>
               show (((cfg0.win 4).blk t).view.emb (ix3 0 a1 a2) (2 : Fin 3)).val = _
               rw [show (((cfg0.win 4).blk t).view.emb (ix3 0 a1 a2) (2 : Fin 3)).val = win0_4.index t (2 : Fin 3) * 256 + 1 * ((ix3 0 a1 a2 : S1x20x256.Idx) (2 : Fin 3)).val from rfl, e2]
               show _ * 256 + 1 * a2.val = a2.val
               omega

theorem wix5 : ∀ t : Fin cfg0.N, win0_5.index t (0 : Fin 3) = t.val / 20 ∧ win0_5.index t (1 : Fin 3) = 0 ∧ win0_5.index t (2 : Fin 3) = 0 := by decide +kernel

theorem iblk5 (c : Dev nD) (t : Fin cfg0.N) (q : Fin 6) (h : Fin 20) (hq : t.val / 20 = q.val) (hh : t.val % 20 = h.val) (a1 : Fin 20) (a2 : Fin 256) :
    (iblk m c 5 t : Vec Ideal S1x20x256 .f32) (ix3 0 a1 a2) = (V m c main_arg5 : Vec Ideal S6x20x256 .f32) (ix3 q a1 a2) := by
  show (V m c main_arg5 : Vec Ideal S6x20x256 .f32) (((cfg0.win 5).blk t).view.emb (ix3 0 a1 a2)) = _
  obtain ⟨e0, e1, e2⟩ := wix5 t
  refine congrArg (V m c main_arg5 : Vec Ideal S6x20x256 .f32) ?_
  funext a; apply Fin.ext
  match a with
  | ⟨0, _⟩ =>
               show (((cfg0.win 5).blk t).view.emb (ix3 0 a1 a2) (0 : Fin 3)).val = _
               rw [show (((cfg0.win 5).blk t).view.emb (ix3 0 a1 a2) (0 : Fin 3)).val = win0_5.index t (0 : Fin 3) * 1 + 1 * ((ix3 0 a1 a2 : S1x20x256.Idx) (0 : Fin 3)).val from rfl, e0]
               show _ * 1 + 1 * 0 = q.val
               omega
  | ⟨1, _⟩ =>
               show (((cfg0.win 5).blk t).view.emb (ix3 0 a1 a2) (1 : Fin 3)).val = _
               rw [show (((cfg0.win 5).blk t).view.emb (ix3 0 a1 a2) (1 : Fin 3)).val = win0_5.index t (1 : Fin 3) * 20 + 1 * ((ix3 0 a1 a2 : S1x20x256.Idx) (1 : Fin 3)).val from rfl, e1]
               show _ * 20 + 1 * a1.val = a1.val
               omega
  | ⟨2, _⟩ =>
               show (((cfg0.win 5).blk t).view.emb (ix3 0 a1 a2) (2 : Fin 3)).val = _
               rw [show (((cfg0.win 5).blk t).view.emb (ix3 0 a1 a2) (2 : Fin 3)).val = win0_5.index t (2 : Fin 3) * 256 + 1 * ((ix3 0 a1 a2 : S1x20x256.Idx) (2 : Fin 3)).val from rfl, e2]
               show _ * 256 + 1 * a2.val = a2.val
               omega

theorem wix6 : ∀ t : Fin cfg0.N, win0_6.index t (0 : Fin 3) = t.val / 20 ∧ win0_6.index t (1 : Fin 3) = 0 ∧ win0_6.index t (2 : Fin 3) = 0 := by decide +kernel

theorem iblk6 (c : Dev nD) (t : Fin cfg0.N) (q : Fin 6) (h : Fin 20) (hq : t.val / 20 = q.val) (hh : t.val % 20 = h.val) (a1 : Fin 20) (a2 : Fin 256) :
    (iblk m c 6 t : Vec Ideal S1x20x256 .f32) (ix3 0 a1 a2) = (V m c main_v0 : Vec Ideal S6x20x256 .f32) (ix3 q a1 a2) := by
  show (V m c main_v0 : Vec Ideal S6x20x256 .f32) (((cfg0.win 6).blk t).view.emb (ix3 0 a1 a2)) = _
  obtain ⟨e0, e1, e2⟩ := wix6 t
  refine congrArg (V m c main_v0 : Vec Ideal S6x20x256 .f32) ?_
  funext a; apply Fin.ext
  match a with
  | ⟨0, _⟩ =>
               show (((cfg0.win 6).blk t).view.emb (ix3 0 a1 a2) (0 : Fin 3)).val = _
               rw [show (((cfg0.win 6).blk t).view.emb (ix3 0 a1 a2) (0 : Fin 3)).val = win0_6.index t (0 : Fin 3) * 1 + 1 * ((ix3 0 a1 a2 : S1x20x256.Idx) (0 : Fin 3)).val from rfl, e0]
               show _ * 1 + 1 * 0 = q.val
               omega
  | ⟨1, _⟩ =>
               show (((cfg0.win 6).blk t).view.emb (ix3 0 a1 a2) (1 : Fin 3)).val = _
               rw [show (((cfg0.win 6).blk t).view.emb (ix3 0 a1 a2) (1 : Fin 3)).val = win0_6.index t (1 : Fin 3) * 20 + 1 * ((ix3 0 a1 a2 : S1x20x256.Idx) (1 : Fin 3)).val from rfl, e1]
               show _ * 20 + 1 * a1.val = a1.val
               omega
  | ⟨2, _⟩ =>
               show (((cfg0.win 6).blk t).view.emb (ix3 0 a1 a2) (2 : Fin 3)).val = _
               rw [show (((cfg0.win 6).blk t).view.emb (ix3 0 a1 a2) (2 : Fin 3)).val = win0_6.index t (2 : Fin 3) * 256 + 1 * ((ix3 0 a1 a2 : S1x20x256.Idx) (2 : Fin 3)).val from rfl, e2]
               show _ * 256 + 1 * a2.val = a2.val
               omega

theorem wix7 : ∀ t : Fin cfg0.N, win0_7.index t (0 : Fin 2) = 0 ∧ win0_7.index t (1 : Fin 2) = 0 := by decide +kernel

theorem iblk7 (c : Dev nD) (t : Fin cfg0.N) (q : Fin 6) (h : Fin 20) (hq : t.val / 20 = q.val) (hh : t.val % 20 = h.val) (a0 : Fin 20) :
    (iblk m c 7 t : Vec Ideal S20x1 .f32) (ix2 a0 0) = (V m c main_v1 : Vec Ideal S20x1 .f32) (ix2 a0 0) := by
  show (V m c main_v1 : Vec Ideal S20x1 .f32) (((cfg0.win 7).blk t).view.emb (ix2 a0 0)) = _
  obtain ⟨e0, e1⟩ := wix7 t
  refine congrArg (V m c main_v1 : Vec Ideal S20x1 .f32) ?_
  funext a; apply Fin.ext
  match a with
  | ⟨0, _⟩ =>
               show (((cfg0.win 7).blk t).view.emb (ix2 a0 0) (0 : Fin 2)).val = _
               rw [show (((cfg0.win 7).blk t).view.emb (ix2 a0 0) (0 : Fin 2)).val = win0_7.index t (0 : Fin 2) * 20 + 1 * ((ix2 a0 0 : S20x1.Idx) (0 : Fin 2)).val from rfl, e0]
               show _ * 20 + 1 * a0.val = a0.val
               omega
  | ⟨1, _⟩ =>
               show (((cfg0.win 7).blk t).view.emb (ix2 a0 0) (1 : Fin 2)).val = _
               rw [show (((cfg0.win 7).blk t).view.emb (ix2 a0 0) (1 : Fin 2)).val = win0_7.index t (1 : Fin 2) * 1 + 1 * ((ix2 a0 0 : S20x1.Idx) (1 : Fin 2)).val from rfl, e1]
               show _ * 1 + 1 * 0 = 0
               omega

theorem wix8 : ∀ t : Fin cfg0.N, win0_8.index t (0 : Fin 2) = 0 ∧ win0_8.index t (1 : Fin 2) = 0 := by decide +kernel

theorem iblk8 (c : Dev nD) (t : Fin cfg0.N) (q : Fin 6) (h : Fin 20) (hq : t.val / 20 = q.val) (hh : t.val % 20 = h.val) (a0 : Fin 20) :
    (iblk m c 8 t : Vec Ideal S20x1 .f32) (ix2 a0 0) = (V m c main_v2 : Vec Ideal S20x1 .f32) (ix2 a0 0) := by
  show (V m c main_v2 : Vec Ideal S20x1 .f32) (((cfg0.win 8).blk t).view.emb (ix2 a0 0)) = _
  obtain ⟨e0, e1⟩ := wix8 t
  refine congrArg (V m c main_v2 : Vec Ideal S20x1 .f32) ?_
  funext a; apply Fin.ext
  match a with
  | ⟨0, _⟩ =>
               show (((cfg0.win 8).blk t).view.emb (ix2 a0 0) (0 : Fin 2)).val = _
               rw [show (((cfg0.win 8).blk t).view.emb (ix2 a0 0) (0 : Fin 2)).val = win0_8.index t (0 : Fin 2) * 20 + 1 * ((ix2 a0 0 : S20x1.Idx) (0 : Fin 2)).val from rfl, e0]
               show _ * 20 + 1 * a0.val = a0.val
               omega
  | ⟨1, _⟩ =>
               show (((cfg0.win 8).blk t).view.emb (ix2 a0 0) (1 : Fin 2)).val = _
               rw [show (((cfg0.win 8).blk t).view.emb (ix2 a0 0) (1 : Fin 2)).val = win0_8.index t (1 : Fin 2) * 1 + 1 * ((ix2 a0 0 : S20x1.Idx) (1 : Fin 2)).val from rfl, e1]
               show _ * 1 + 1 * 0 = 0
               omega

theorem wix9 : ∀ t : Fin cfg0.N, win0_9.index t (0 : Fin 3) = t.val / 20 ∧ win0_9.index t (1 : Fin 3) = 0 ∧ win0_9.index t (2 : Fin 3) = 0 := by decide +kernel

theorem iblk9 (c : Dev nD) (t : Fin cfg0.N) (q : Fin 6) (h : Fin 20) (hq : t.val / 20 = q.val) (hh : t.val % 20 = h.val) (a1 : Fin 20) (a2 : Fin 256) :
    (iblk m c 9 t : Vec Ideal S1x20x256 .f32) (ix3 0 a1 a2) = (V m c main_v3 : Vec Ideal S6x20x256 .f32) (ix3 q a1 a2) := by
  show (V m c main_v3 : Vec Ideal S6x20x256 .f32) (((cfg0.win 9).blk t).view.emb (ix3 0 a1 a2)) = _
  obtain ⟨e0, e1, e2⟩ := wix9 t
  refine congrArg (V m c main_v3 : Vec Ideal S6x20x256 .f32) ?_
  funext a; apply Fin.ext
  match a with
  | ⟨0, _⟩ =>
               show (((cfg0.win 9).blk t).view.emb (ix3 0 a1 a2) (0 : Fin 3)).val = _
               rw [show (((cfg0.win 9).blk t).view.emb (ix3 0 a1 a2) (0 : Fin 3)).val = win0_9.index t (0 : Fin 3) * 1 + 1 * ((ix3 0 a1 a2 : S1x20x256.Idx) (0 : Fin 3)).val from rfl, e0]
               show _ * 1 + 1 * 0 = q.val
               omega
  | ⟨1, _⟩ =>
               show (((cfg0.win 9).blk t).view.emb (ix3 0 a1 a2) (1 : Fin 3)).val = _
               rw [show (((cfg0.win 9).blk t).view.emb (ix3 0 a1 a2) (1 : Fin 3)).val = win0_9.index t (1 : Fin 3) * 20 + 1 * ((ix3 0 a1 a2 : S1x20x256.Idx) (1 : Fin 3)).val from rfl, e1]
               show _ * 20 + 1 * a1.val = a1.val
               omega
  | ⟨2, _⟩ =>
               show (((cfg0.win 9).blk t).view.emb (ix3 0 a1 a2) (2 : Fin 3)).val = _
               rw [show (((cfg0.win 9).blk t).view.emb (ix3 0 a1 a2) (2 : Fin 3)).val = win0_9.index t (2 : Fin 3) * 256 + 1 * ((ix3 0 a1 a2 : S1x20x256.Idx) (2 : Fin 3)).val from rfl, e2]
               show _ * 256 + 1 * a2.val = a2.val
               omega

theorem wix10 : ∀ t : Fin cfg0.N, win0_10.index t (0 : Fin 4) = t.val / 20 ∧ win0_10.index t (1 : Fin 4) = t.val % 20 ∧ win0_10.index t (2 : Fin 4) = 0 ∧ win0_10.index t (3 : Fin 4) = 0 := by decide +kernel

theorem iblk10 (c : Dev nD) (t : Fin cfg0.N) (q : Fin 6) (h : Fin 20) (hq : t.val / 20 = q.val) (hh : t.val % 20 = h.val) (a2 : Fin 64) (a3 : Fin 160) :
    (iblk m c 10 t : Vec Ideal S1x1x64x160 .f32) (ix4 0 0 a2 a3) = (V m c main_arg10 : Vec Ideal S6x20x64x160 .f32) (ix4 q h a2 a3) := by
  show (V m c main_arg10 : Vec Ideal S6x20x64x160 .f32) (((cfg0.win 10).blk t).view.emb (ix4 0 0 a2 a3)) = _
  obtain ⟨e0, e1, e2, e3⟩ := wix10 t
  refine congrArg (V m c main_arg10 : Vec Ideal S6x20x64x160 .f32) ?_
  funext a; apply Fin.ext
  match a with
  | ⟨0, _⟩ =>
               show (((cfg0.win 10).blk t).view.emb (ix4 0 0 a2 a3) (0 : Fin 4)).val = _
               rw [show (((cfg0.win 10).blk t).view.emb (ix4 0 0 a2 a3) (0 : Fin 4)).val = win0_10.index t (0 : Fin 4) * 1 + 1 * ((ix4 0 0 a2 a3 : S1x1x64x160.Idx) (0 : Fin 4)).val from rfl, e0]
               show _ * 1 + 1 * 0 = q.val
               omega
  | ⟨1, _⟩ =>
               show (((cfg0.win 10).blk t).view.emb (ix4 0 0 a2 a3) (1 : Fin 4)).val = _
               rw [show (((cfg0.win 10).blk t).view.emb (ix4 0 0 a2 a3) (1 : Fin 4)).val = win0_10.index t (1 : Fin 4) * 1 + 1 * ((ix4 0 0 a2 a3 : S1x1x64x160.Idx) (1 : Fin 4)).val from rfl, e1]
               show _ * 1 + 1 * 0 = h.val
               omega
  | ⟨2, _⟩ =>
               show (((cfg0.win 10).blk t).view.emb (ix4 0 0 a2 a3) (2 : Fin 4)).val = _
               rw [show (((cfg0.win 10).blk t).view.emb (ix4 0 0 a2 a3) (2 : Fin 4)).val = win0_10.index t (2 : Fin 4) * 64 + 1 * ((ix4 0 0 a2 a3 : S1x1x64x160.Idx) (2 : Fin 4)).val from rfl, e2]
               show _ * 64 + 1 * a2.val = a2.val
               omega
  | ⟨3, _⟩ =>
               show (((cfg0.win 10).blk t).view.emb (ix4 0 0 a2 a3) (3 : Fin 4)).val = _
               rw [show (((cfg0.win 10).blk t).view.emb (ix4 0 0 a2 a3) (3 : Fin 4)).val = win0_10.index t (3 : Fin 4) * 160 + 1 * ((ix4 0 0 a2 a3 : S1x1x64x160.Idx) (3 : Fin 4)).val from rfl, e3]
               show _ * 160 + 1 * a3.val = a3.val
               omega

theorem V0_eq (c : Dev nD) (q : Fin 6) (h : Fin 20) (j : Fin 256) :
    (V m c main_v0 : Vec Ideal S6x20x256 .f32) (ix3 q h j) = (m (c, main_arg6) : Vec Ideal S6x256x20 .f32) (ix3 q j h) := by
  have : (V m c main_v0 : Vec Ideal S6x20x256 .f32) = transpose S6x20x256 [0, 2, 1] (m (c, main_arg6)) transposes_S6x256x20_S6x20x256_0_2_1 := rfl
  rw [this]
  pointwise

theorem V3_eq (c : Dev nD) (q : Fin 6) (h : Fin 20) (j : Fin 256) :
    (V m c main_v3 : Vec Ideal S6x20x256 .f32) (ix3 q h j) = (m (c, main_arg9) : Vec Ideal S6x256x20 .f32) (ix3 q j h) := by
  have : (V m c main_v3 : Vec Ideal S6x20x256 .f32) = transpose S6x20x256 [0, 2, 1] (m (c, main_arg9)) transposes_S6x256x20_S6x20x256_0_2_1 := rfl
  rw [this]
  pointwise

theorem V1_eq (c : Dev nD) (h : Fin 20) :
    (V m c main_v1 : Vec Ideal S20x1 .f32) (ix2 h 0) = (m (c, main_arg7) : Vec Ideal S20 .f32) (ix1 h) := by
  have : (V m c main_v1 : Vec Ideal S20x1 .f32) = broadcastInDim S20x1 ![0] bcast_S20_S20x1_0 (m (c, main_arg7)) := rfl
  rw [this]
  pointwise

theorem V2_eq (c : Dev nD) (h : Fin 20) :
    (V m c main_v2 : Vec Ideal S20x1 .f32) (ix2 h 0) = (m (c, main_arg8) : Vec Ideal S20 .f32) (ix1 h) := by
  have : (V m c main_v2 : Vec Ideal S20x1 .f32) = broadcastInDim S20x1 ![0] bcast_S20_S20x1_0 (m (c, main_arg8)) := rfl
  rw [this]
  pointwise

end Cert.KernelIdeal.Scan
-- ==== Proof.Scan.R.lean ====
module

public import proofs.«01_k».proof.Proof.Scan.Load
public import Idealize.ShloMosaic.Lib.Pointwise

@[expose] public section
set_option maxRecDepth 16384

noncomputable section
open Idealize.ShloMosaic Idealize.ShloMosaic.TcCoe
namespace Cert.KernelIdeal.Scan
open Cert.Scan Cert.KernelIdeal Cert.KernelIdeal.Gen

set_option maxHeartbeats 2000000 in
theorem row1_0 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (k0_pay12 k0_pay24 (k0_pay3 x6 x7 x8)) (ix3 0 b t) = Lk (fun j => k0_pay3 x6 x7 x8 (ix2 b (lo j))) t := by
  pointwise [k0_pay11, k0_pay12, k0_pay2, k0_pay24]
  have hl (t : Nat) (ht : t < 128) := Lk_eq (fun j => k0_pay3 x6 x7 x8 (ix2 b (lo j))) (fun j => hf b _) t ht
  simp only [lo, hi] at hl
  simp only [wlf, gkf, select_127 _ (Fin.is_lt _), lo, hi]
  all_goals first | rfl | exact hl _ t.isLt | (rw [hl 127 (by decide), hl _ t.isLt]; rfl)

set_option maxHeartbeats 2000000 in
theorem row2_0 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (k0_pay9 (k0_pay8 x6 x7 x9)) (ix3 0 b t) = (fun j => k0_pay5 x6 x7 x9 (ix2 b (lo j))) t := by
  pointwise [k0_pay2, k0_pay4, k0_pay5, k0_pay8, k0_pay9]
  first | rfl | (pointwise [k0_pay5]; rfl)

set_option maxHeartbeats 2000000 in
theorem row3_0 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (k0_pay14 (k0_pay5 x6 x7 x9) (k0_pay6 x6 x7 x9) (iota Kind.tc S1x128 32 [1] iota_S1x128_d1_w32)) (ix3 0 b t) = gkf (fun j => k0_pay5 x6 x7 x9 (ix2 b (lo j))) (fun j => k0_pay6 x6 x7 x9 (ix2 b (lo j))) t := by
  pointwise [k0_pay13, k0_pay14, k0_pay2, k0_pay4]
  have hl (t : Nat) (ht : t < 128) := Lk_eq (fun j => k0_pay3 x6 x7 x8 (ix2 b (lo j))) (fun j => hf b _) t ht
  simp only [lo, hi] at hl
  simp only [wlf, gkf, select_127 _ (Fin.is_lt _), lo, hi]
  all_goals first | rfl | exact hl _ t.isLt | (rw [hl 127 (by decide), hl _ t.isLt]; rfl)

set_option maxHeartbeats 2000000 in
theorem row4_0 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (k0_pay10 (k0_pay6 x6 x7 x9)) (ix3 0 b t) = (fun j => k0_pay6 x6 x7 x9 (ix2 b (lo j))) t := by
  pointwise [k0_pay10, k0_pay2, k0_pay4]
  rfl

set_option maxHeartbeats 2000000 in
theorem row5_0 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (k0_pay16 (k0_pay13 (k0_pay5 x6 x7 x9) (k0_pay6 x6 x7 x9) (iota Kind.tc S1x128 32 [1] iota_S1x128_d1_w32)) (k0_pay15 k0_pay24 (k0_pay3 x6 x7 x8))) (ix3 0 b t) = wlf (fun j => k0_pay3 x6 x7 x8 (ix2 b (lo j))) (fun j => k0_pay5 x6 x7 x9 (ix2 b (lo j))) (fun j => k0_pay6 x6 x7 x9 (ix2 b (lo j))) t := by
  pointwise [k0_pay11, k0_pay13, k0_pay15, k0_pay16, k0_pay2, k0_pay24, k0_pay4]
  have hl (t : Nat) (ht : t < 128) := Lk_eq (fun j => k0_pay3 x6 x7 x8 (ix2 b (lo j))) (fun j => hf b _) t ht
  simp only [lo, hi] at hl
  simp only [wlf, gkf, select_127 _ (Fin.is_lt _), lo, hi]
  all_goals first | rfl | exact hl _ t.isLt | (rw [hl 127 (by decide), hl _ t.isLt]; rfl)

set_option maxHeartbeats 2000000 in
theorem row1_1 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (k0_pay21 k0_pay24 (k0_pay3 x6 x7 x8)) (ix3 0 b t) = Lk (fun j => k0_pay3 x6 x7 x8 (ix2 b (hi j))) t := by
  pointwise [k0_pay2, k0_pay20, k0_pay21, k0_pay24]
  have hl (t : Nat) (ht : t < 128) := Lk_eq (fun j => k0_pay3 x6 x7 x8 (ix2 b (hi j))) (fun j => hf b _) t ht
  simp only [lo, hi] at hl
  simp only [wlf, gkf, select_127 _ (Fin.is_lt _), lo, hi]
  all_goals first | rfl | exact hl _ t.isLt | (rw [hl 127 (by decide), hl _ t.isLt]; rfl)

set_option maxHeartbeats 2000000 in
theorem row2_1 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (k0_pay18 (k0_pay5 x6 x7 x9)) (ix3 0 b t) = (fun j => k0_pay5 x6 x7 x9 (ix2 b (hi j))) t := by
  pointwise [k0_pay18, k0_pay2, k0_pay4, k0_pay5]
  first | rfl | (pointwise [k0_pay5]; rfl)

set_option maxHeartbeats 2000000 in
theorem row3_1 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (k0_pay26 (k0_pay5 x6 x7 x9) (iota Kind.tc S1x128 32 [1] iota_S1x128_d1_w32) (k0_pay22 (k0_pay6 x6 x7 x9)) k0_pay23) (ix3 0 b t) = gkf (fun j => k0_pay5 x6 x7 x9 (ix2 b (hi j))) (fun j => k0_pay6 x6 x7 x9 (ix2 b (hi j))) t := by
  pointwise [k0_pay2, k0_pay22, k0_pay23, k0_pay25, k0_pay26, k0_pay4]
  have hl (t : Nat) (ht : t < 128) := Lk_eq (fun j => k0_pay3 x6 x7 x8 (ix2 b (hi j))) (fun j => hf b _) t ht
  simp only [lo, hi] at hl
  simp only [wlf, gkf, select_127 _ (Fin.is_lt _), lo, hi]
  all_goals first | rfl | exact hl _ t.isLt | (rw [hl 127 (by decide), hl _ t.isLt]; rfl)

set_option maxHeartbeats 2000000 in
theorem row4_1 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (k0_pay19 (k0_pay6 x6 x7 x9)) (ix3 0 b t) = (fun j => k0_pay6 x6 x7 x9 (ix2 b (hi j))) t := by
  pointwise [k0_pay19, k0_pay2, k0_pay4]
  rfl

set_option maxHeartbeats 2000000 in
theorem row5_1 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (k0_pay27 (k0_pay5 x6 x7 x9) (iota Kind.tc S1x128 32 [1] iota_S1x128_d1_w32) (k0_pay20 k0_pay24 (k0_pay3 x6 x7 x8)) (k0_pay22 (k0_pay6 x6 x7 x9)) k0_pay23) (ix3 0 b t) = wlf (fun j => k0_pay3 x6 x7 x8 (ix2 b (hi j))) (fun j => k0_pay5 x6 x7 x9 (ix2 b (hi j))) (fun j => k0_pay6 x6 x7 x9 (ix2 b (hi j))) t := by
  pointwise [k0_pay2, k0_pay20, k0_pay22, k0_pay23, k0_pay24, k0_pay25, k0_pay27, k0_pay4]
  have hl (t : Nat) (ht : t < 128) := Lk_eq (fun j => k0_pay3 x6 x7 x8 (ix2 b (hi j))) (fun j => hf b _) t ht
  simp only [lo, hi] at hl
  simp only [wlf, gkf, select_127 _ (Fin.is_lt _), lo, hi]
  all_goals first | rfl | exact hl _ t.isLt | (rw [hl 127 (by decide), hl _ t.isLt]; rfl)

end Cert.KernelIdeal.Scan
-- ==== Proof.Scan.A0.lean ====
module

public import proofs.«01_k».proof.Proof.Scan.Load
public import Idealize.ShloMosaic.Lib.Pointwise

@[expose] public section
set_option maxRecDepth 16384

noncomputable section
open Idealize.ShloMosaic Idealize.ShloMosaic.TcCoe
namespace Cert.KernelIdeal.Scan
open Cert.Scan Cert.KernelIdeal Cert.KernelIdeal.Gen

set_option maxHeartbeats 2000000 in
theorem y0_0 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (p : Fin 160) (t : Fin 128) : (k0_pay65 (w_0 i x0 x1 x2 x3 x4 x5 x10 xs1 xs2 xs3 xs4 xs5) (w_15 i x0 x1 x2 x3 x4 x5 x10 xs1 xs2 xs3 xs4 xs5) (w_24 i x0 x1 x2 x3 x4 x5 x10 xs1 xs2 xs3 xs4 xs5) (w_26 i x0 x1 x2 x3 x4 x5 x10 xs1 xs2 xs3 xs4 xs5) (w_27 i x0 x1 x2 x3 x4 x5 x10 xs1 xs2 xs3 xs4 xs5) (w_28 i x0 x1 x2 x3 x4 x5 x10 xs1 xs2 xs3 xs4 xs5) (w_29 i x0 x1 x2 x3 x4 x5 x10 xs1 xs2 xs3 xs4 xs5) (w_30 i x0 x1 x2 x3 x4 x5 x10 xs1 xs2 xs3 xs4 xs5) (w_31 i x0 x1 x2 x3 x4 x5 x10 xs1 xs2 xs3 xs4 xs5) (k0_pay61 (iota Kind.tc S128x128 32 [0] iota_S128x128_d0_w32) (iota Kind.tc S128x128 32 [1] iota_S128x128_d1_w32)) (w_33 i x0 x1 x2 x3 x4 x5 x10 xs1 xs2 xs3 xs4 xs5) k0_pay63) (ix5 0 0 0 p t) = yc (fun r p j => x0 (ix5 0 0 r p (lo j))) (fun r n j => x1 (ix5 0 0 r n (lo j))) (fun r n j => x2 (ix5 0 0 r n (lo j))) (fun j => x3 (ix3 0 (i 1) (lo j))) (fun j => x4 (ix3 0 (i 1) (lo j))) (fun j => x5 (ix3 0 (i 1) (lo j))) (fun j => xs1 (ix3 0 (i 1) j)) (fun j => xs2 (ix3 0 (i 1) j)) (fun j => xs3 (ix3 0 (i 1) j)) (fun n p => x10 (ix4 0 0 n p)) 0 p t := by
  simp only [w_0, w_1, w_2, w_3, w_4, w_5, w_6, w_7, w_8, w_9, w_10, w_11, w_12, w_13, w_14, w_15, w_16, w_24, w_26, w_27, w_28, w_29, w_30, w_31, w_33]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay54, k0_pay55, k0_pay56, k0_pay57, k0_pay58, k0_pay59, k0_pay60, k0_pay61, k0_pay62, k0_pay63, k0_pay64, k0_pay65]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt]
  rfl

set_option maxHeartbeats 2000000 in
theorem y0_1 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (p : Fin 160) (t : Fin 128) : (k0_pay66 (w_0 i x0 x1 x2 x3 x4 x5 x10 xs1 xs2 xs3 xs4 xs5) (w_15 i x0 x1 x2 x3 x4 x5 x10 xs1 xs2 xs3 xs4 xs5) (w_24 i x0 x1 x2 x3 x4 x5 x10 xs1 xs2 xs3 xs4 xs5) (w_26 i x0 x1 x2 x3 x4 x5 x10 xs1 xs2 xs3 xs4 xs5) (w_27 i x0 x1 x2 x3 x4 x5 x10 xs1 xs2 xs3 xs4 xs5) (w_28 i x0 x1 x2 x3 x4 x5 x10 xs1 xs2 xs3 xs4 xs5) (w_29 i x0 x1 x2 x3 x4 x5 x10 xs1 xs2 xs3 xs4 xs5) (w_30 i x0 x1 x2 x3 x4 x5 x10 xs1 xs2 xs3 xs4 xs5) (w_31 i x0 x1 x2 x3 x4 x5 x10 xs1 xs2 xs3 xs4 xs5) (k0_pay61 (iota Kind.tc S128x128 32 [0] iota_S128x128_d0_w32) (iota Kind.tc S128x128 32 [1] iota_S128x128_d1_w32)) (w_33 i x0 x1 x2 x3 x4 x5 x10 xs1 xs2 xs3 xs4 xs5) k0_pay63) (ix5 0 0 0 p t) = yc (fun r p j => x0 (ix5 0 0 r p (lo j))) (fun r n j => x1 (ix5 0 0 r n (lo j))) (fun r n j => x2 (ix5 0 0 r n (lo j))) (fun j => x3 (ix3 0 (i 1) (lo j))) (fun j => x4 (ix3 0 (i 1) (lo j))) (fun j => x5 (ix3 0 (i 1) (lo j))) (fun j => xs1 (ix3 0 (i 1) j)) (fun j => xs2 (ix3 0 (i 1) j)) (fun j => xs3 (ix3 0 (i 1) j)) (fun n p => x10 (ix4 0 0 n p)) 1 p t := by
  simp only [w_0, w_1, w_2, w_3, w_4, w_5, w_6, w_7, w_8, w_9, w_10, w_11, w_12, w_13, w_14, w_15, w_16, w_24, w_26, w_27, w_28, w_29, w_30, w_31, w_33]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay54, k0_pay55, k0_pay56, k0_pay57, k0_pay58, k0_pay59, k0_pay60, k0_pay61, k0_pay62, k0_pay63, k0_pay64, k0_pay66]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt]
  rfl

end Cert.KernelIdeal.Scan
-- ==== Proof.Scan.A1.lean ====
module

public import proofs.«01_k».proof.Proof.Scan.Load
public import Idealize.ShloMosaic.Lib.Pointwise

@[expose] public section
set_option maxRecDepth 16384

noncomputable section
open Idealize.ShloMosaic Idealize.ShloMosaic.TcCoe
namespace Cert.KernelIdeal.Scan
open Cert.Scan Cert.KernelIdeal Cert.KernelIdeal.Gen

set_option maxHeartbeats 2000000 in
theorem y1_0 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (p : Fin 160) (t : Fin 128) : (k0_pay114 (w_40 i x0 x1 x2 x3 x4 x5 x10 xs1 xs2 xs3 xs4 xs5) (w_41 i x0 x1 x2 x3 x4 x5 x10 xs1 xs2 xs3 xs4 xs5) (w_57 i x0 x1 x2 x3 x4 x5 x10 xs1 xs2 xs3 xs4 xs5) (w_62 i x0 x1 x2 x3 x4 x5 x10 xs1 xs2 xs3 xs4 xs5) (w_64 i x0 x1 x2 x3 x4 x5 x10 xs1 xs2 xs3 xs4 xs5) (w_65 i x0 x1 x2 x3 x4 x5 x10 xs1 xs2 xs3 xs4 xs5) (w_66 i x0 x1 x2 x3 x4 x5 x10 xs1 xs2 xs3 xs4 xs5) (w_67 i x0 x1 x2 x3 x4 x5 x10 xs1 xs2 xs3 xs4 xs5) (w_68 i x0 x1 x2 x3 x4 x5 x10 xs1 xs2 xs3 xs4 xs5) (w_69 i x0 x1 x2 x3 x4 x5 x10 xs1 xs2 xs3 xs4 xs5) (k0_pay110 (iota Kind.tc S128x128 32 [0] iota_S128x128_d0_w32) (iota Kind.tc S128x128 32 [1] iota_S128x128_d1_w32)) (w_71 i x0 x1 x2 x3 x4 x5 x10 xs1 xs2 xs3 xs4 xs5) (View.ld xs4 (Rect.unit (k0_off4 i) ![1, 1, 128] (k0_off4_inb i)))) (ix5 0 0 0 p t) = yc (fun r p j => x0 (ix5 0 0 r p (hi j))) (fun r n j => x1 (ix5 0 0 r n (hi j))) (fun r n j => x2 (ix5 0 0 r n (hi j))) (fun j => x3 (ix3 0 (i 1) (hi j))) (fun j => x4 (ix3 0 (i 1) (hi j))) (fun j => x5 (ix3 0 (i 1) (hi j))) (fun j => xs1 (ix3 1 (i 1) j)) (fun j => xs2 (ix3 1 (i 1) j)) (fun j => xs3 (ix3 1 (i 1) j)) (fun n p => w_72 i x0 x1 x2 x3 x4 x5 x10 xs1 xs2 xs3 xs4 xs5 (ix2 n p)) 0 p t := by
  simp only [w_0, w_1, w_2, w_3, w_4, w_5, w_6, w_7, w_8, w_13, w_14, w_16, w_17, w_18, w_19, w_20, w_21, w_22, w_23, w_24, w_25, w_31, w_32, w_36, w_37, w_38, w_39, w_42, w_43, w_44, w_45, w_46, w_47, w_48, w_49, w_50, w_51, w_52, w_53, w_54, w_55, w_56, w_57, w_62, w_64, w_65, w_66, w_67, w_68, w_69, w_71]
  pointwise [k0_pay100, k0_pay101, k0_pay103, k0_pay104, k0_pay105, k0_pay106, k0_pay107, k0_pay108, k0_pay109, k0_pay110, k0_pay111, k0_pay113, k0_pay114, k0_pay28, k0_pay29, k0_pay30, k0_pay31, k0_pay32, k0_pay33, k0_pay34, k0_pay35, k0_pay36, k0_pay41, k0_pay42, k0_pay44, k0_pay45, k0_pay46, k0_pay47, k0_pay48, k0_pay49, k0_pay50, k0_pay51, k0_pay52, k0_pay53, k0_pay59, k0_pay60, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt]
  rfl

set_option maxHeartbeats 2000000 in
theorem y1_1 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (p : Fin 160) (t : Fin 128) : (k0_pay116 (w_74 i x0 x1 x2 x3 x4 x5 x10 xs1 xs2 xs3 xs4 xs5)) (ix5 0 0 0 p t) = yc (fun r p j => x0 (ix5 0 0 r p (hi j))) (fun r n j => x1 (ix5 0 0 r n (hi j))) (fun r n j => x2 (ix5 0 0 r n (hi j))) (fun j => x3 (ix3 0 (i 1) (hi j))) (fun j => x4 (ix3 0 (i 1) (hi j))) (fun j => x5 (ix3 0 (i 1) (hi j))) (fun j => xs1 (ix3 1 (i 1) j)) (fun j => xs2 (ix3 1 (i 1) j)) (fun j => xs3 (ix3 1 (i 1) j)) (fun n p => w_72 i x0 x1 x2 x3 x4 x5 x10 xs1 xs2 xs3 xs4 xs5 (ix2 n p)) 1 p t := by
  simp only [w_0, w_1, w_2, w_3, w_4, w_5, w_6, w_7, w_8, w_13, w_14, w_16, w_17, w_18, w_19, w_20, w_21, w_22, w_23, w_24, w_25, w_31, w_32, w_36, w_37, w_38, w_39, w_42, w_43, w_44, w_45, w_46, w_47, w_48, w_49, w_50, w_51, w_52, w_53, w_54, w_55, w_56, w_57, w_62, w_64, w_65, w_66, w_67, w_68, w_69, w_71, w_74]
  pointwise [k0_pay100, k0_pay101, k0_pay103, k0_pay104, k0_pay105, k0_pay106, k0_pay107, k0_pay108, k0_pay109, k0_pay110, k0_pay111, k0_pay113, k0_pay115, k0_pay116, k0_pay28, k0_pay29, k0_pay30, k0_pay31, k0_pay32, k0_pay33, k0_pay34, k0_pay35, k0_pay36, k0_pay41, k0_pay42, k0_pay44, k0_pay45, k0_pay46, k0_pay47, k0_pay48, k0_pay49, k0_pay50, k0_pay51, k0_pay52, k0_pay53, k0_pay59, k0_pay60, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt]
  rfl

end Cert.KernelIdeal.Scan
-- ==== Proof.Scan.A2.lean ====
module

public import proofs.«01_k».proof.Proof.Scan.Load
public import Idealize.ShloMosaic.Lib.Pointwise

@[expose] public section
set_option maxRecDepth 16384

noncomputable section
open Idealize.ShloMosaic Idealize.ShloMosaic.TcCoe
namespace Cert.KernelIdeal.Scan
open Cert.Scan Cert.KernelIdeal Cert.KernelIdeal.Gen

set_option maxHeartbeats 2000000 in
theorem s0 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (n : Fin 64) (p : Fin 160) : (w_41 i x0 x1 x2 x3 x4 x5 x10 xs1 xs2 xs3 xs4 xs5) (ix2 n p) = Ideal.exp ((fun j => xs1 (ix3 0 (i 1) j)) 127) * (fun n p => x10 (ix4 0 0 n p)) n p + dS (fun r p j => x0 (ix5 0 0 r p (lo j))) (fun r n j => x1 (ix5 0 0 r n (lo j))) (fun j => x3 (ix3 0 (i 1) (lo j))) (fun j => x4 (ix3 0 (i 1) (lo j))) (fun j => xs5 (ix3 0 (i 1) j)) n p := by
  simp only [w_0, w_1, w_2, w_3, w_4, w_5, w_6, w_7, w_8, w_13, w_14, w_16, w_17, w_18, w_19, w_25, w_31, w_32, w_36, w_41]
  pointwise [k0_pay28, k0_pay29, k0_pay30, k0_pay31, k0_pay32, k0_pay33, k0_pay34, k0_pay35, k0_pay36, k0_pay41, k0_pay42, k0_pay44, k0_pay45, k0_pay46, k0_pay47, k0_pay48, k0_pay49, k0_pay50, k0_pay51, k0_pay53, k0_pay59, k0_pay60, k0_pay70, k0_pay77]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt]
  rfl

set_option maxHeartbeats 2000000 in
theorem t0 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (n : Fin 64) (p : Fin 160) : (w_40 i x0 x1 x2 x3 x4 x5 x10 xs1 xs2 xs3 xs4 xs5) (ix2 n p) = tap (fun r p j => x0 (ix5 0 0 r p (lo j))) (fun r n j => x1 (ix5 0 0 r n (lo j))) (fun j => x3 (ix3 0 (i 1) (lo j))) (fun j => x4 (ix3 0 (i 1) (lo j))) n p := by
  simp only [w_1, w_2, w_3, w_4, w_5, w_6, w_7, w_8, w_13, w_14, w_16, w_20, w_21, w_22, w_23, w_24, w_32, w_37, w_38, w_39, w_40]
  pointwise [k0_pay29, k0_pay30, k0_pay31, k0_pay32, k0_pay33, k0_pay34, k0_pay35, k0_pay36, k0_pay41, k0_pay42, k0_pay44, k0_pay45, k0_pay46, k0_pay47, k0_pay48, k0_pay49, k0_pay50, k0_pay51, k0_pay52, k0_pay60, k0_pay71, k0_pay72, k0_pay73, k0_pay74, k0_pay75, k0_pay76]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt, select_127]
  rw [Finset.sum_eq_single (127 : Fin 128), Finset.sum_eq_single (127 : Fin 128), Finset.sum_eq_single (127 : Fin 128), Finset.sum_eq_single (127 : Fin 128)]
  · rfl
  all_goals first
    | (intro j _ hj; have hj2 : ¬ j.val = 127 := fun e => hj (Fin.ext e); simp [hj2]; done)
    | (intro h; exact absurd (Finset.mem_univ _) h)

set_option maxHeartbeats 2000000 in
theorem e1 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (n : Fin 64) (p : Fin 160) : (w_72 i x0 x1 x2 x3 x4 x5 x10 xs1 xs2 xs3 xs4 xs5) (ix2 n p) = w_41 i x0 x1 x2 x3 x4 x5 x10 xs1 xs2 xs3 xs4 xs5 (ix2 n p) + xs4 (ix3 1 (i 1) 0) * w_40 i x0 x1 x2 x3 x4 x5 x10 xs1 xs2 xs3 xs4 xs5 (ix2 n p) := by
  simp only [w_0, w_1, w_2, w_3, w_4, w_5, w_6, w_7, w_8, w_13, w_14, w_16, w_17, w_18, w_19, w_20, w_21, w_22, w_23, w_24, w_25, w_31, w_32, w_36, w_37, w_38, w_39, w_72]
  pointwise [k0_pay112, k0_pay28, k0_pay29, k0_pay30, k0_pay31, k0_pay32, k0_pay33, k0_pay34, k0_pay35, k0_pay36, k0_pay41, k0_pay42, k0_pay44, k0_pay45, k0_pay46, k0_pay47, k0_pay48, k0_pay49, k0_pay50, k0_pay51, k0_pay52, k0_pay53, k0_pay59, k0_pay60, k0_pay70, k0_pay71, k0_pay72, k0_pay73, k0_pay74, k0_pay75, k0_pay76, k0_pay77]
  simp only [off1, off2, off3, off4]
  rfl

set_option maxHeartbeats 2000000 in
theorem s1 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (n : Fin 64) (p : Fin 160) : (w_75 i x0 x1 x2 x3 x4 x5 x10 xs1 xs2 xs3 xs4 xs5) (ix2 n p) = Ideal.exp ((fun j => xs1 (ix3 1 (i 1) j)) 127) * (fun n p => w_72 i x0 x1 x2 x3 x4 x5 x10 xs1 xs2 xs3 xs4 xs5 (ix2 n p)) n p + dS (fun r p j => x0 (ix5 0 0 r p (hi j))) (fun r n j => x1 (ix5 0 0 r n (hi j))) (fun j => x3 (ix3 0 (i 1) (hi j))) (fun j => x4 (ix3 0 (i 1) (hi j))) (fun j => xs5 (ix3 1 (i 1) j)) n p := by
  simp only [w_0, w_1, w_2, w_3, w_4, w_5, w_6, w_7, w_8, w_13, w_14, w_16, w_17, w_18, w_19, w_20, w_21, w_22, w_23, w_24, w_25, w_31, w_32, w_36, w_37, w_38, w_39, w_42, w_43, w_44, w_45, w_46, w_47, w_48, w_49, w_54, w_55, w_58, w_59, w_60, w_61, w_63, w_69, w_70, w_75]
  pointwise [k0_pay100, k0_pay102, k0_pay108, k0_pay109, k0_pay112, k0_pay119, k0_pay28, k0_pay29, k0_pay30, k0_pay31, k0_pay32, k0_pay33, k0_pay34, k0_pay35, k0_pay36, k0_pay41, k0_pay42, k0_pay44, k0_pay45, k0_pay46, k0_pay47, k0_pay48, k0_pay49, k0_pay50, k0_pay51, k0_pay52, k0_pay53, k0_pay59, k0_pay60, k0_pay70, k0_pay71, k0_pay72, k0_pay73, k0_pay74, k0_pay75, k0_pay76, k0_pay77, k0_pay78, k0_pay79, k0_pay80, k0_pay81, k0_pay82, k0_pay83, k0_pay84, k0_pay85, k0_pay90, k0_pay91, k0_pay93, k0_pay94, k0_pay95, k0_pay96, k0_pay97, k0_pay98, k0_pay99]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt]
  rfl

end Cert.KernelIdeal.Scan
-- ==== Proof.Scan.A3.lean ====
module

public import proofs.«01_k».proof.Proof.Scan.Load
public import Idealize.ShloMosaic.Lib.Pointwise

@[expose] public section
set_option maxRecDepth 16384

noncomputable section
open Idealize.ShloMosaic Idealize.ShloMosaic.TcCoe
namespace Cert.KernelIdeal.Scan
open Cert.Scan Cert.KernelIdeal Cert.KernelIdeal.Gen

set_option maxHeartbeats 2000000 in
theorem y0_2 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (p : Fin 160) (t : Fin 128) : (k0_pay68 (w_35 i x0 x1 x2 x3 x4 x5 x10 xs1 xs2 xs3 xs4 xs5)) (ix5 0 0 0 p t) = yc (fun r p j => x0 (ix5 0 0 r p (lo j))) (fun r n j => x1 (ix5 0 0 r n (lo j))) (fun r n j => x2 (ix5 0 0 r n (lo j))) (fun j => x3 (ix3 0 (i 1) (lo j))) (fun j => x4 (ix3 0 (i 1) (lo j))) (fun j => x5 (ix3 0 (i 1) (lo j))) (fun j => xs1 (ix3 0 (i 1) j)) (fun j => xs2 (ix3 0 (i 1) j)) (fun j => xs3 (ix3 0 (i 1) j)) (fun n p => x10 (ix4 0 0 n p)) 2 p t := by
  simp only [w_0, w_1, w_2, w_3, w_4, w_5, w_6, w_7, w_8, w_9, w_10, w_11, w_12, w_13, w_14, w_15, w_16, w_24, w_26, w_27, w_28, w_29, w_30, w_31, w_33, w_35]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay54, k0_pay55, k0_pay56, k0_pay57, k0_pay58, k0_pay59, k0_pay60, k0_pay61, k0_pay62, k0_pay63, k0_pay64, k0_pay67, k0_pay68]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt]
  simp only [mul_ite, mul_zero]
  rfl

set_option maxHeartbeats 2000000 in
theorem y0_3 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (p : Fin 160) (t : Fin 128) : (k0_pay69 (w_34 i x0 x1 x2 x3 x4 x5 x10 xs1 xs2 xs3 xs4 xs5)) (ix5 0 0 0 p t) = yc (fun r p j => x0 (ix5 0 0 r p (lo j))) (fun r n j => x1 (ix5 0 0 r n (lo j))) (fun r n j => x2 (ix5 0 0 r n (lo j))) (fun j => x3 (ix3 0 (i 1) (lo j))) (fun j => x4 (ix3 0 (i 1) (lo j))) (fun j => x5 (ix3 0 (i 1) (lo j))) (fun j => xs1 (ix3 0 (i 1) j)) (fun j => xs2 (ix3 0 (i 1) j)) (fun j => xs3 (ix3 0 (i 1) j)) (fun n p => x10 (ix4 0 0 n p)) 3 p t := by
  simp only [w_0, w_1, w_2, w_3, w_4, w_5, w_6, w_7, w_8, w_9, w_10, w_11, w_12, w_13, w_14, w_15, w_16, w_24, w_26, w_27, w_28, w_29, w_30, w_31, w_33, w_34]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay54, k0_pay55, k0_pay56, k0_pay57, k0_pay58, k0_pay59, k0_pay60, k0_pay61, k0_pay62, k0_pay63, k0_pay64, k0_pay69]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt]
  simp only [mul_ite, mul_zero]
  rfl

end Cert.KernelIdeal.Scan
-- ==== Proof.Scan.A4.lean ====
module

public import proofs.«01_k».proof.Proof.Scan.Load
public import Idealize.ShloMosaic.Lib.Pointwise

@[expose] public section
set_option maxRecDepth 16384

noncomputable section
open Idealize.ShloMosaic Idealize.ShloMosaic.TcCoe
namespace Cert.KernelIdeal.Scan
open Cert.Scan Cert.KernelIdeal Cert.KernelIdeal.Gen

set_option maxHeartbeats 2000000 in
theorem y1_2 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (p : Fin 160) (t : Fin 128) : (k0_pay117 (w_73 i x0 x1 x2 x3 x4 x5 x10 xs1 xs2 xs3 xs4 xs5)) (ix5 0 0 0 p t) = yc (fun r p j => x0 (ix5 0 0 r p (hi j))) (fun r n j => x1 (ix5 0 0 r n (hi j))) (fun r n j => x2 (ix5 0 0 r n (hi j))) (fun j => x3 (ix3 0 (i 1) (hi j))) (fun j => x4 (ix3 0 (i 1) (hi j))) (fun j => x5 (ix3 0 (i 1) (hi j))) (fun j => xs1 (ix3 1 (i 1) j)) (fun j => xs2 (ix3 1 (i 1) j)) (fun j => xs3 (ix3 1 (i 1) j)) (fun n p => w_72 i x0 x1 x2 x3 x4 x5 x10 xs1 xs2 xs3 xs4 xs5 (ix2 n p)) 2 p t := by
  simp only [w_0, w_1, w_2, w_3, w_4, w_5, w_6, w_7, w_8, w_13, w_14, w_16, w_17, w_18, w_19, w_20, w_21, w_22, w_23, w_24, w_25, w_31, w_32, w_36, w_37, w_38, w_39, w_42, w_43, w_44, w_45, w_46, w_47, w_48, w_49, w_50, w_51, w_52, w_53, w_54, w_55, w_56, w_57, w_62, w_64, w_65, w_66, w_67, w_68, w_69, w_71, w_73]
  pointwise [k0_pay100, k0_pay101, k0_pay103, k0_pay104, k0_pay105, k0_pay106, k0_pay107, k0_pay108, k0_pay109, k0_pay110, k0_pay111, k0_pay113, k0_pay117, k0_pay28, k0_pay29, k0_pay30, k0_pay31, k0_pay32, k0_pay33, k0_pay34, k0_pay35, k0_pay36, k0_pay41, k0_pay42, k0_pay44, k0_pay45, k0_pay46, k0_pay47, k0_pay48, k0_pay49, k0_pay50, k0_pay51, k0_pay52, k0_pay53, k0_pay59, k0_pay60, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt]
  simp only [mul_ite, mul_zero]
  rfl

set_option maxHeartbeats 2000000 in
theorem y1_3 (i : grid0.Coords) (x0 : Vec Ideal S1x1x4x160x256 .fp8e4m3) (x1 : Vec Ideal S1x1x4x64x256 .fp8e4m3) (x2 : Vec Ideal S1x1x4x64x256 .fp8e4m3) (x3 : Vec Ideal S1x20x256 .f32) (x4 : Vec Ideal S1x20x256 .f32) (x5 : Vec Ideal S1x20x256 .f32) (x10 : Vec Ideal S1x1x64x160 .f32) (xs1 : Vec Ideal S2x20x128 .f32) (xs2 : Vec Ideal S2x20x128 .f32) (xs3 : Vec Ideal S2x20x128 .f32) (xs4 : Vec Ideal S2x20x128 .f32) (xs5 : Vec Ideal S2x20x128 .f32) (p : Fin 160) (t : Fin 128) : (k0_pay118 (w_73 i x0 x1 x2 x3 x4 x5 x10 xs1 xs2 xs3 xs4 xs5)) (ix5 0 0 0 p t) = yc (fun r p j => x0 (ix5 0 0 r p (hi j))) (fun r n j => x1 (ix5 0 0 r n (hi j))) (fun r n j => x2 (ix5 0 0 r n (hi j))) (fun j => x3 (ix3 0 (i 1) (hi j))) (fun j => x4 (ix3 0 (i 1) (hi j))) (fun j => x5 (ix3 0 (i 1) (hi j))) (fun j => xs1 (ix3 1 (i 1) j)) (fun j => xs2 (ix3 1 (i 1) j)) (fun j => xs3 (ix3 1 (i 1) j)) (fun n p => w_72 i x0 x1 x2 x3 x4 x5 x10 xs1 xs2 xs3 xs4 xs5 (ix2 n p)) 3 p t := by
  simp only [w_0, w_1, w_2, w_3, w_4, w_5, w_6, w_7, w_8, w_13, w_14, w_16, w_17, w_18, w_19, w_20, w_21, w_22, w_23, w_24, w_25, w_31, w_32, w_36, w_37, w_38, w_39, w_42, w_43, w_44, w_45, w_46, w_47, w_48, w_49, w_50, w_51, w_52, w_53, w_54, w_55, w_56, w_57, w_62, w_64, w_65, w_66, w_67, w_68, w_69, w_71, w_73]
  pointwise [k0_pay100, k0_pay101, k0_pay103, k0_pay104, k0_pay105, k0_pay106, k0_pay107, k0_pay108, k0_pay109, k0_pay110, k0_pay111, k0_pay113, k0_pay118, k0_pay28, k0_pay29, k0_pay30, k0_pay31, k0_pay32, k0_pay33, k0_pay34, k0_pay35, k0_pay36, k0_pay41, k0_pay42, k0_pay44, k0_pay45, k0_pay46, k0_pay47, k0_pay48, k0_pay49, k0_pay50, k0_pay51, k0_pay52, k0_pay53, k0_pay59, k0_pay60, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]
  simp only [off1, off2, off3, off4]
  have a1 (j : Fin 128) : ¬ 128 + j.val < 128 := by omega
  have a2 (j : Fin 128) : ¬ 256 + j.val < 128 := by omega
  have a3 (j : Fin 128) : ¬ 384 + j.val < 128 := by omega
  have a4 (j : Fin 128) : 256 + j.val - 128 = 128 + j.val := by omega
  have a5 (j : Fin 128) : 384 + j.val - 128 = 256 + j.val := by omega
  simp only [yc, dS, tap, lo, hi, sum4, Fin.sum_univ_four, Matrix.cons_val, Matrix.cons_val_zero, Matrix.cons_val_one, zero_add, Fin.is_lt, dite_true, dite_false, dif_pos, dif_neg, a1, a2, a3, a4, a5, Nat.add_sub_cancel_left, not_false_eq_true, select_le, select_lt]
  simp only [mul_ite, mul_zero]
  rfl

end Cert.KernelIdeal.Scan
-- ==== Proof.Scan.Kern.lean ====
module

public import proofs.«01_k».proof.Proof.Scan.Body
public import proofs.«01_k».proof.Proof.Scan.R
public import proofs.«01_k».proof.Proof.Scan.A0
public import proofs.«01_k».proof.Proof.Scan.A1
public import proofs.«01_k».proof.Proof.Scan.A2
public import proofs.«01_k».proof.Proof.Scan.A3
public import proofs.«01_k».proof.Proof.Scan.A4

@[expose] public section
set_option maxRecDepth 16384

noncomputable section
open Idealize.ShloMosaic Idealize.ShloMosaic.TcCoe
namespace Cert.KernelIdeal.Scan
open Cert.Scan Cert.KernelIdeal Cert.KernelIdeal.Gen

theorem pick1 (P1 P0 : Vec Ideal S1x20x128 .f32) (b : Fin 20) (t : Fin 128) :
    View.canon (Val := Elt Ideal) (s := S2x20x128) (e := .f32) [⟨Rect.unit ![1, 0, 0] S1x20x128.size inb_S2x20x128_S1x20x128_1_0_0, P1⟩,
      ⟨Rect.unit ![0, 0, 0] S1x20x128.size inb_S2x20x128_S1x20x128_0_0_0, P0⟩] (ix3 1 b t) = P1 (ix3 0 b t) := by
  have e : (ix3 1 b t : S2x20x128.Idx) = (Rect.unit (s := S2x20x128) ![1, 0, 0] S1x20x128.size inb_S2x20x128_S1x20x128_1_0_0).emb (ix3 0 b t : S1x20x128.Idx) := by
    funext a; apply Fin.ext
    match a with
    | ⟨0, _⟩ => show 1 = 1 + 1 * 0; rfl
    | ⟨1, _⟩ => show b.val = 0 + 1 * b.val; omega
    | ⟨2, _⟩ => show t.val = 0 + 1 * t.val; omega
  rw [e]
  exact View.canon_cons_emb _ _ _ _

theorem pick0 (P1 P0 : Vec Ideal S1x20x128 .f32) (b : Fin 20) (t : Fin 128) :
    View.canon (Val := Elt Ideal) (s := S2x20x128) (e := .f32) [⟨Rect.unit ![1, 0, 0] S1x20x128.size inb_S2x20x128_S1x20x128_1_0_0, P1⟩,
      ⟨Rect.unit ![0, 0, 0] S1x20x128.size inb_S2x20x128_S1x20x128_0_0_0, P0⟩] (ix3 0 b t) = P0 (ix3 0 b t) := by
  have e : (ix3 0 b t : S2x20x128.Idx) = (Rect.unit (s := S2x20x128) ![0, 0, 0] S1x20x128.size inb_S2x20x128_S1x20x128_0_0_0).emb (ix3 0 b t : S1x20x128.Idx) := by
    funext a; apply Fin.ext
    match a with
    | ⟨0, _⟩ => show 0 = 0 + 1 * 0; rfl
    | ⟨1, _⟩ => show b.val = 0 + 1 * b.val; omega
    | ⟨2, _⟩ => show t.val = 0 + 1 * t.val; omega
  have n : (ix3 0 b t : S2x20x128.Idx) ∉ (Rect.unit (s := S2x20x128) ![1, 0, 0] S1x20x128.size inb_S2x20x128_S1x20x128_1_0_0).set :=
    fun hm => absurd ((Rect.mem_set_unit.mp hm) 0).1 (show ¬ (1 ≤ 0) from by decide)
  rw [View.canon_cons_of_not_mem ⟨Rect.unit (s := S2x20x128) ![1, 0, 0] S1x20x128.size inb_S2x20x128_S1x20x128_1_0_0, P1⟩ _ n, e]
  exact View.canon_cons_emb _ _ _ _

theorem rowAt1_0 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (row1 x6 x7 x8 x9) (ix3 0 b t) = Lk (fun j => k0_pay3 x6 x7 x8 (ix2 b (lo j))) t :=
  (pick0 _ _ b t).trans (row1_0 x6 x7 x8 x9 hf b t)

theorem rowAt2_0 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (row2 x6 x7 x8 x9) (ix3 0 b t) = (fun j => k0_pay5 x6 x7 x9 (ix2 b (lo j))) t :=
  (pick0 _ _ b t).trans (row2_0 x6 x7 x8 x9 hf b t)

theorem rowAt3_0 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (row3 x6 x7 x8 x9) (ix3 0 b t) = gkf (fun j => k0_pay5 x6 x7 x9 (ix2 b (lo j))) (fun j => k0_pay6 x6 x7 x9 (ix2 b (lo j))) t :=
  (pick0 _ _ b t).trans (row3_0 x6 x7 x8 x9 hf b t)

theorem rowAt4_0 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (row4 x6 x7 x8 x9) (ix3 0 b t) = (fun j => k0_pay6 x6 x7 x9 (ix2 b (lo j))) t :=
  (pick0 _ _ b t).trans (row4_0 x6 x7 x8 x9 hf b t)

theorem rowAt5_0 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (row5 x6 x7 x8 x9) (ix3 0 b t) = wlf (fun j => k0_pay3 x6 x7 x8 (ix2 b (lo j))) (fun j => k0_pay5 x6 x7 x9 (ix2 b (lo j))) (fun j => k0_pay6 x6 x7 x9 (ix2 b (lo j))) t :=
  (pick0 _ _ b t).trans (row5_0 x6 x7 x8 x9 hf b t)

theorem rowAt1_1 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (row1 x6 x7 x8 x9) (ix3 1 b t) = Lk (fun j => k0_pay3 x6 x7 x8 (ix2 b (hi j))) t :=
  (pick1 _ _ b t).trans (row1_1 x6 x7 x8 x9 hf b t)

theorem rowAt2_1 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (row2 x6 x7 x8 x9) (ix3 1 b t) = (fun j => k0_pay5 x6 x7 x9 (ix2 b (hi j))) t :=
  (pick1 _ _ b t).trans (row2_1 x6 x7 x8 x9 hf b t)

theorem rowAt3_1 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (row3 x6 x7 x8 x9) (ix3 1 b t) = gkf (fun j => k0_pay5 x6 x7 x9 (ix2 b (hi j))) (fun j => k0_pay6 x6 x7 x9 (ix2 b (hi j))) t :=
  (pick1 _ _ b t).trans (row3_1 x6 x7 x8 x9 hf b t)

theorem rowAt4_1 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (row4 x6 x7 x8 x9) (ix3 1 b t) = (fun j => k0_pay6 x6 x7 x9 (ix2 b (hi j))) t :=
  (pick1 _ _ b t).trans (row4_1 x6 x7 x8 x9 hf b t)

theorem rowAt5_1 (x6 : Vec Ideal S1x20x256 .f32) (x7 x8 : Vec Ideal S20x1 .f32) (x9 : Vec Ideal S1x20x256 .f32) (hf : ∀ b j, (k0_pay3 x6 x7 x8 (ix2 b j) : EReal) ≠ ⊤) (b : Fin 20) (t : Fin 128) : (row5 x6 x7 x8 x9) (ix3 1 b t) = wlf (fun j => k0_pay3 x6 x7 x8 (ix2 b (hi j))) (fun j => k0_pay5 x6 x7 x9 (ix2 b (hi j))) (fun j => k0_pay6 x6 x7 x9 (ix2 b (hi j))) t :=
  (pick1 _ _ b t).trans (row5_1 x6 x7 x8 x9 hf b t)

theorem pickY_1_3 (P13 P12 P11 P10 P03 P02 P01 P00 : Vec Ideal S1x1x1x160x128 .bf16) (p : Fin 160) (t : Fin 128) :
    View.canon (Val := Elt Ideal) (s := S1x1x4x160x256) (e := .bf16) [⟨Rect.unit ![0, 0, 3, 0, 128] ![1, 1, 1, 160, 128] inb_S1x1x4x160x256_S1x1x1x160x128_0_0_3_0_128, P13⟩, ⟨Rect.unit ![0, 0, 2, 0, 128] ![1, 1, 1, 160, 128] inb_S1x1x4x160x256_S1x1x1x160x128_0_0_2_0_128, P12⟩, ⟨Rect.unit ![0, 0, 1, 0, 128] ![1, 1, 1, 160, 128] inb_S1x1x4x160x256_S1x1x1x160x128_0_0_1_0_128, P11⟩, ⟨Rect.unit ![0, 0, 0, 0, 128] ![1, 1, 1, 160, 128] inb_S1x1x4x160x256_S1x1x1x160x128_0_0_0_0_128, P10⟩, ⟨Rect.unit ![0, 0, 3, 0, 0] ![1, 1, 1, 160, 128] inb_S1x1x4x160x256_S1x1x1x160x128_0_0_3_0_0, P03⟩, ⟨Rect.unit ![0, 0, 2, 0, 0] ![1, 1, 1, 160, 128] inb_S1x1x4x160x256_S1x1x1x160x128_0_0_2_0_0, P02⟩, ⟨Rect.unit ![0, 0, 1, 0, 0] ![1, 1, 1, 160, 128] inb_S1x1x4x160x256_S1x1x1x160x128_0_0_1_0_0, P01⟩, ⟨Rect.unit ![0, 0, 0, 0, 0] ![1, 1, 1, 160, 128] inb_S1x1x4x160x256_S1x1x1x160x128_0_0_0_0_0, P00⟩] (ix5 0 0 3 p (hi t)) = P13 (ix5 0 0 0 p t) := by
  have e : (ix5 0 0 3 p (hi t) : S1x1x4x160x256.Idx) = (Rect.unit (s := S1x1x4x160x256) ![0, 0, 3, 0, 128] ![1, 1, 1, 160, 128] inb_S1x1x4x160x256_S1x1x1x160x128_0_0_3_0_128).emb (ix5 0 0 0 p t : S1x1x1x160x128.Idx) := by
    funext a; apply Fin.ext
    match a with
    | ⟨0, _⟩ => show 0 = 0 + 1 * 0; rfl
    | ⟨1, _⟩ => show 0 = 0 + 1 * 0; rfl
    | ⟨2, _⟩ => show 3 = 3 + 1 * 0; rfl
    | ⟨3, _⟩ => show p.val = 0 + 1 * p.val; omega
    | ⟨4, _⟩ => show 128 + t.val = 128 + 1 * t.val; omega
  rw [e]
  exact View.canon_cons_emb _ _ _ _

theorem pickY_1_2 (P13 P12 P11 P10 P03 P02 P01 P00 : Vec Ideal S1x1x1x160x128 .bf16) (p : Fin 160) (t : Fin 128) :
    View.canon (Val := Elt Ideal) (s := S1x1x4x160x256) (e := .bf16) [⟨Rect.unit ![0, 0, 3, 0, 128] ![1, 1, 1, 160, 128] inb_S1x1x4x160x256_S1x1x1x160x128_0_0_3_0_128, P13⟩, ⟨Rect.unit ![0, 0, 2, 0, 128] ![1, 1, 1, 160, 128] inb_S1x1x4x160x256_S1x1x1x160x128_0_0_2_0_128, P12⟩, ⟨Rect.unit ![0, 0, 1, 0, 128] ![1, 1, 1, 160, 128] inb_S1x1x4x160x256_S1x1x1x160x128_0_0_1_0_128, P11⟩, ⟨Rect.unit ![0, 0, 0, 0, 128] ![1, 1, 1, 160, 128] inb_S1x1x4x160x256_S1x1x1x160x128_0_0_0_0_128, P10⟩, ⟨Rect.unit ![0, 0, 3, 0, 0] ![1, 1, 1, 160, 128] inb_S1x1x4x160x256_S1x1x1x160x128_0_0_3_0_0, P03⟩, ⟨Rect.unit ![0, 0, 2, 0, 0] ![1, 1, 1, 160, 128] inb_S1x1x4x160x256_S1x1x1x160x128_0_0_2_0_0, P02⟩, ⟨Rect.unit ![0, 0, 1, 0, 0] ![1, 1, 1, 160, 128] inb_S1x1x4x160x256_S1x1x1x160x128_0_0_1_0_0, P01⟩, ⟨Rect.unit ![0, 0, 0, 0, 0] ![1, 1, 1, 160, 128] inb_S1x1x4x160x256_S1x1x1x160x128_0_0_0_0_0, P00⟩] (ix5 0 0 2 p (hi t)) = P12 (ix5 0 0 0 p t) := by
  have n13 : (ix5 0 0 2 p (hi t) : S1x1x4x160x256.Idx) ∉ (Rect.unit (s := S1x1x4x160x256) ![0, 0, 3, 0, 128] ![1, 1, 1, 160, 128] inb_S1x1x4x160x256_S1x1x1x160x128_0_0_3_0_128).set :=
    fun hm => absurd ((Rect.mem_set_unit.mp hm) 2).1 (show ¬ (3 ≤ 2) from by decide)
  rw [View.canon_cons_of_not_mem ⟨Rect.unit (s := S1x1x4x160x256) ![0, 0, 3, 0, 128] ![1, 1, 1, 160, 128] inb_S1x1x4x160x256_S1x1x1x160x128_0_0_3_0_128, P13⟩ _ n13]
  have e : (ix5 0 0 2 p (hi t) : S1x1x4x160x256.Idx) = (Rect.unit (s := S1x1x4x160x256) ![0, 0, 2, 0, 128] ![1, 1, 1, 160, 128] inb_S1x1x4x160x256_S1x1x1x160x128_0_0_2_0_128).emb (ix5 0 0 0 p t : S1x1x1x160x128.Idx) := by
    funext a; apply Fin.ext
    match a with
    | ⟨0, _⟩ => show 0 = 0 + 1 * 0; rfl
    | ⟨1, _⟩ => show 0 = 0 + 1 * 0; rfl
    | ⟨2, _⟩ => show 2 = 2 + 1 * 0; rfl
    | ⟨3, _⟩ => show p.val = 0 + 1 * p.val; omega
    | ⟨4, _⟩ => show 128 + t.val = 128 + 1 * t.val; omega
  rw [e]
  exact View.canon_cons_emb _ _ _ _

theorem pickY_1_1 (P13 P12 P11 P10 P03 P02 P01 P00 : Vec Ideal S1x1x1x160x128 .bf16) (p : Fin 160) (t : Fin 128) :
    View.canon (Val := Elt Ideal) (s := S1x1x4x160x256) (e := .bf16) [⟨Rect.unit ![0, 0, 3, 0, 128] ![1, 1, 1, 160, 128] inb_S1x1x4x160x256_S1x1x1x160x128_0_0_3_0_128, P13⟩, ⟨Rect.unit ![0, 0, 2, 0, 128] ![1, 1, 1, 160, 128] inb_S1x1x4x160x256_S1x1x1x160x128_0_0_2_0_128, P12⟩, ⟨Rect.unit ![0, 0, 1, 0, 128] ![1, 1, 1, 160, 128] inb_S1x1x4x160x256_S1x1x1x160x128_0_0_1_0_128, P11⟩, ⟨Rect.unit ![0, 0, 0, 0, 128] ![1, 1, 1, 160, 128] inb_S1x1x4x160x256_S1x1x1x160x128_0_0_0_0_128, P10⟩, ⟨Rect.unit ![0, 0, 3, 0, 0] ![1, 1, 1, 160, 128] inb_S1x1x4x160x256_S1x1x1x160x128_0_0_3_0_0, P03⟩, ⟨Rect.unit ![0, 0, 2, 0, 0] ![1, 1, 1, 160, 128] inb_S1x1x4x160x256_S1x1x1x160x128_0_0_2_0_0, P02⟩, ⟨Rect.unit ![0, 0, 1, 0, 0] ![1, 1, 1, 160, 128] inb_S1x1x4x160x256_S1x1x1x160x128_0_0_1_0_0, P01⟩, ⟨Rect.unit ![0, 0, 0, 0, 0] ![1, 1, 1, 160, 128] inb_S1x1x4x160x256_S1x1x1x160x128_0_0_0_0_0, P00⟩] (ix5 0 0 1 p (hi t)) = P11 (ix5 0 0 0 p t) := by
  have n13 : (ix5 0 0 1 p (hi t) : S1x1x4x160x256.Idx) ∉ (Rect.unit (s := S1x1x4x160x256) ![0, 0, 3, 0, 128] ![1, 1, 1, 160, 128] inb_S1x1x4x160x256_S1x1x1x160x128_0_0_3_0_128).set :=
    fun hm => absurd ((Rect.mem_set_unit.mp hm) 2).1 (show ¬ (3 ≤ 1) from by decide)
  rw [View.canon_cons_of_not_mem ⟨Rect.unit (s := S1x1x4x160x256) ![0, 0, 3, 0, 128] ![1, 1, 1, 160, 128] inb_S1x1x4x160x256_S1x1x1x160x128_0_0_3_0_128, P13⟩ _ n13]
  have n12 : (ix5 0 0 1 p (hi t) : S1x1x4x160x256.Idx) ∉ (Rect.unit (s := S1x1x4x160x256) ![0, 0, 2, 0, 128] ![1, 1, 1, 160, 128] inb_S1x1x4x160x256_S1x1x1x160x128_0_0_2_0_128).set :=
    fun hm => absurd ((Rect.mem_set_unit.mp hm) 2).1 (show ¬ (2 ≤ 1) from by decide)
  rw [View.canon_cons_of_not_mem ⟨Rect.unit (s := S1x1x4x160x256) ![0, 0, 2, 0, 128] ![1, 1, 1, 160, 128] inb_S1x1x4x160x256_S1x1x1x160x128_0_0_2_0_128, P12⟩ _ n12]
  have e : (ix5 0 0 1 p (hi t) : S1x1x4x160x256.Idx) = (Rect.unit (s := S1x1x4x160x256) ![0, 0, 1, 0, 128] ![1, 1, 1, 160, 128] inb_S1x1x4x160x256_S1x1x1x160x128_0_0_1_0_128).emb (ix5 0 0 0 p t : S1x1x1x160x128.Idx) := by
    funext a; apply Fin.ext
    match a with
    | ⟨0, _⟩ => show 0 = 0 + 1 * 0; rfl
    | ⟨1, _⟩ => show 0 = 0 + 1 * 0; rfl
    | ⟨2, _⟩ => show 1 = 1 + 1 * 0; rfl
    | ⟨3, _⟩ => show p.val = 0 + 1 * p.val; omega
    | ⟨4, _⟩ => show 128 + t.val = 128 + 1 * t.val; omega
  rw [e]
  exact View.canon_cons_emb _ _ _ _

theorem pickY_1_0 (P13 P12 P11 P10 P03 P02 P01 P00 : Vec Ideal S1x1x1x160x128 .bf16) (p : Fin 160) (t : Fin 128) :
    View.canon (Val := Elt Ideal) (s := S1x1x4x160x256) (e := .bf16) [⟨Rect.unit ![0, 0, 3, 0, 128] ![1, 1, 1, 160, 128] inb_S1x1x4x160x256_S1x1x1x160x128_0_0_3_0_128, P13⟩, ⟨Rect.unit ![0, 0, 2, 0, 128] ![1, 1, 1, 160, 128] inb_S1x1x4x160x256_S1x1x1x160x128_0_0_2_0_128, P12⟩, ⟨Rect.unit ![0, 0, 1, 0, 128] ![1, 1, 1, 160, 128] inb_S1x1x4x160x256_S1x1x1x160x128_0_0_1_0_128, P11⟩, ⟨Rect.unit ![0, 0, 0, 0, 128] ![1, 1, 1, 160, 128] inb_S1x1x4x160x256_S1x1x1x160x128_0_0_0_0_128, P10⟩, ⟨Rect.unit ![0, 0, 3, 0, 0] ![1, 1, 1, 160, 128] inb_S1x1x4x160x256_S1x1x1x160x128_0_0_3_0_0, P03⟩, ⟨Rect.unit ![0, 0, 2, 0, 0] ![1, 1, 1, 160, 128] inb_S1x1x4x160x256_S1x1x1x160x128_0_0_2_0_0, P02⟩, ⟨Rect.unit ![0, 0, 1, 0, 0] ![1, 1, 1, 160, 128] inb_S1x1x4x160x256_S1x1x1x160x128_0_0_1_0_0, P01⟩, ⟨Rect.unit ![0, 0, 0, 0, 0] ![1, 1, 1, 160, 128] inb_S1x1x4x160x256_S1x1x1x160x128_0_0_0_0_0, P00⟩] (ix5 0 0 0 p (hi t)) = P10 (ix5 0 0 0 p t) := by
  have n13 : (ix5 0 0 0 p (hi t) : S1x1x4x160x256.Idx) ∉ (Rect.unit (s := S1x1x4x160x256) ![0, 0, 3, 0, 128] ![1, 1, 1, 160, 128] inb_S1x1x4x160x256_S1x1x1x160x128_0_0_3_0_128).set :=
    fun hm => absurd ((Rect.mem_set_unit.mp hm) 2).1 (show ¬ (3 ≤ 0) from by decide)
  rw [View.canon_cons_of_not_mem ⟨Rect.unit (s := S1x1x4x160x256) ![0, 0, 3, 0, 128] ![1, 1, 1, 160, 128] inb_S1x1x4x160x256_S1x1x1x160x128_0_0_3_0_128, P13⟩ _ n13]
  have n12 : (ix5 0 0 0 p (hi t) : S1x1x4x160x256.Idx) ∉ (Rect.unit (s := S1x1x4x160x256) ![0, 0, 2, 0, 128] ![1, 1, 1, 160, 128] inb_S1x1x4x160x256_S1x1x1x160x128_0_0_2_0_128).set :=
    fun hm => absurd ((Rect.mem_set_unit.mp hm) 2).1 (show ¬ (2 ≤ 0) from by decide)
  rw [View.canon_cons_of_not_mem ⟨Rect.unit (s := S1x1x4x160x256) ![0, 0, 2, 0, 128] ![1, 1, 1, 160, 128] inb_S1x1x4x160x256_S1x1x1x160x128_0_0_2_0_128, P12⟩ _ n12]
  have n11 : (ix5 0 0 0 p (hi t) : S1x1x4x160x256.Idx) ∉ (Rect.unit (s := S1x1x4x160x256) ![0, 0, 1, 0, 128] ![1, 1, 1, 160, 128] inb_S1x1x4x160x256_S1x1x1x160x128_0_0_1_0_128).set :=
    fun hm => absurd ((Rect.mem_set_unit.mp hm) 2).1 (show ¬ (1 ≤ 0) from by decide)
  rw [View.canon_cons_of_not_mem ⟨Rect.unit (s := S1x1x4x160x256) ![0, 0, 1, 0, 128] ![1, 1, 1, 160, 128] inb_S1x1x4x160x256_S1x1x1x160x128_0_0_1_0_128, P11⟩ _ n11]
  have e : (ix5 0 0 0 p (hi t) : S1x1x4x160x256.Idx) = (Rect.unit (s := S1x1x4x160x256) ![0, 0, 0, 0, 128] ![1, 1, 1, 160, 128] inb_S1x1x4x160x256_S1x1x1x160x128_0_0_0_0_128).emb (ix5 0 0 0 p t : S1x1x1x160x128.Idx) := by
    funext a; apply Fin.ext
    match a with
    | ⟨0, _⟩ => show 0 = 0 + 1 * 0; rfl
    | ⟨1, _⟩ => show 0 = 0 + 1 * 0; rfl
    | ⟨2, _⟩ => show 0 = 0 + 1 * 0; rfl
    | ⟨3, _⟩ => show p.val = 0 + 1 * p.val; omega
    | ⟨4, _⟩ => show 128 + t.val = 128 + 1 * t.val; omega
  rw [e]
  exact View.canon_cons_emb _ _ _ _

theorem pickY_0_3 (P13 P12 P11 P10 P03 P02 P01 P00 : Vec Ideal S1x1x1x160x128 .bf16) (p : Fin 160) (t : Fin 128) :
    View.canon (Val := Elt Ideal) (s := S1x1x4x160x256) (e := .bf16) [⟨Rect.unit ![0, 0, 3, 0, 128] ![1, 1, 1, 160, 128] inb_S1x1x4x160x256_S1x1x1x160x128_0_0_3_0_128, P13⟩, ⟨Rect.unit ![0, 0, 2, 0, 128] ![1, 1, 1, 160, 128] inb_S1x1x4x160x256_S1x1x1x160x128_0_0_2_0_128, P12⟩, ⟨Rect.unit ![0, 0, 1, 0, 128] ![1, 1, 1, 160, 128] inb_S1x1x4x160x256_S1x1x1x160x128_0_0_1_0_128, P11⟩, ⟨Rect.unit ![0, 0, 0, 0, 128] ![1, 1, 1, 160, 128] inb_S1x1x4x160x256_S1x1x1x160x128_0_0_0_0_128, P10⟩, ⟨Rect.unit ![0, 0, 3, 0, 0] ![1, 1, 1, 160, 128] inb_S1x1x4x160x256_S1x1x1x160x128_0_0_3_0_0, P03⟩, ⟨Rect.unit ![0, 0, 2, 0, 0] ![1, 1, 1, 160, 128] inb_S1x1x4x160x256_S1x1x1x160x128_0_0_2_0_0, P02⟩, ⟨Rect.unit ![0, 0, 1, 0, 0] ![1, 1, 1, 160, 128] inb_S1x1x4x160x256_S1x1x1x160x128_0_0_1_0_0, P01⟩, ⟨Rect.unit ![0, 0, 0, 0, 0] ![1, 1, 1, 160, 128] inb_S1x1x4x160x256_S1x1x1x160x128_0_0_0_0_0, P00⟩] (ix5 0 0 3 p (lo t)) = P03 (ix5 0 0 0 p t) := by
  have n13 : (ix5 0 0 3 p (lo t) : S1x1x4x160x256.Idx) ∉ (Rect.unit (s := S1x1x4x160x256) ![0, 0, 3, 0, 128] ![1, 1, 1, 160, 128] inb_S1x1x4x160x256_S1x1x1x160x128_0_0_3_0_128).set :=
    fun hm => absurd ((Rect.mem_set_unit.mp hm) 4).1 (show ¬ (128 ≤ t.val) from by omega)
  rw [View.canon_cons_of_not_mem ⟨Rect.unit (s := S1x1x4x160x256) ![0, 0, 3, 0, 128] ![1, 1, 1, 160, 128] inb_S1x1x4x160x256_S1x1x1x160x128_0_0_3_0_128, P13⟩ _ n13]
  have n12 : (ix5 0 0 3 p (lo t) : S1x1x4x160x256.Idx) ∉ (Rect.unit (s := S1x1x4x160x256) ![0, 0, 2, 0, 128] ![1, 1, 1, 160, 128] inb_S1x1x4x160x256_S1x1x1x160x128_0_0_2_0_128).set :=
    fun hm => absurd ((Rect.mem_set_unit.mp hm) 2).2 (show ¬ (3 < 2 + 1) from by decide)
  rw [View.canon_cons_of_not_mem ⟨Rect.unit (s := S1x1x4x160x256) ![0, 0, 2, 0, 128] ![1, 1, 1, 160, 128] inb_S1x1x4x160x256_S1x1x1x160x128_0_0_2_0_128, P12⟩ _ n12]
  have n11 : (ix5 0 0 3 p (lo t) : S1x1x4x160x256.Idx) ∉ (Rect.unit (s := S1x1x4x160x256) ![0, 0, 1, 0, 128] ![1, 1, 1, 160, 128] inb_S1x1x4x160x256_S1x1x1x160x128_0_0_1_0_128).set :=
    fun hm => absurd ((Rect.mem_set_unit.mp hm) 2).2 (show ¬ (3 < 1 + 1) from by decide)
  rw [View.canon_cons_of_not_mem ⟨Rect.unit (s := S1x1x4x160x256) ![0, 0, 1, 0, 128] ![1, 1, 1, 160, 128] inb_S1x1x4x160x256_S1x1x1x160x128_0_0_1_0_128, P11⟩ _ n11]
  have n10 : (ix5 0 0 3 p (lo t) : S1x1x4x160x256.Idx) ∉ (Rect.unit (s := S1x1x4x160x256) ![0, 0, 0, 0, 128] ![1, 1, 1, 160, 128] inb_S1x1x4x160x256_S1x1x1x160x128_0_0_0_0_128).set :=
    fun hm => absurd ((Rect.mem_set_unit.mp hm) 2).2 (show ¬ (3 < 0 + 1) from by decide)
  rw [View.canon_cons_of_not_mem ⟨Rect.unit (s := S1x1x4x160x256) ![0, 0, 0, 0, 128] ![1, 1, 1, 160, 128] inb_S1x1x4x160x256_S1x1x1x160x128_0_0_0_0_128, P10⟩ _ n10]
  have e : (ix5 0 0 3 p (lo t) : S1x1x4x160x256.Idx) = (Rect.unit (s := S1x1x4x160x256) ![0, 0, 3, 0, 0] ![1, 1, 1, 160, 128] inb_S1x1x4x160x256_S1x1x1x160x128_0_0_3_0_0).emb (ix5 0 0 0 p t : S1x1x1x160x128.Idx) := by
    funext a; apply Fin.ext
    match a with
    | ⟨0, _⟩ => show 0 = 0 + 1 * 0; rfl
    | ⟨1, _⟩ => show 0 = 0 + 1 * 0; rfl
    | ⟨2, _⟩ => show 3 = 3 + 1 * 0; rfl
    | ⟨3, _⟩ => show p.val = 0 + 1 * p.val; omega
    | ⟨4, _⟩ => show t.val = 0 + 1 * t.val; omega
  rw [e]
  exact View.canon_cons_emb _ _ _ _

theorem pickY_0_2 (P13 P12 P11 P10 P03 P02 P01 P00 : Vec Ideal S1x1x1x160x128 .bf16) (p : Fin 160) (t : Fin 128) :
    View.canon (Val := Elt Ideal) (s := S1x1x4x160x256) (e := .bf16) [⟨Rect.unit ![0, 0, 3, 0, 128] ![1, 1, 1, 160, 128] inb_S1x1x4x160x256_S1x1x1x160x128_0_0_3_0_128, P13⟩, ⟨Rect.unit ![0, 0, 2, 0, 128] ![1, 1, 1, 160, 128] inb_S1x1x4x160x256_S1x1x1x160x128_0_0_2_0_128, P12⟩, ⟨Rect.unit ![0, 0, 1, 0, 128] ![1, 1, 1, 160, 128] inb_S1x1x4x160x256_S1x1x1x160x128_0_0_1_0_128, P11⟩, ⟨Rect.unit ![0, 0, 0, 0, 128] ![1, 1, 1, 160, 128] inb_S1x1x4x160x256_S1x1x1x160x128_0_0_0_0_128, P10⟩, ⟨Rect.unit ![0, 0, 3, 0, 0] ![1, 1, 1, 160, 128] inb_S1x1x4x160x256_S1x1x1x160x128_0_0_3_0_0, P03⟩, ⟨Rect.unit ![0, 0, 2, 0, 0] ![1, 1, 1, 160, 128] inb_S1x1x4x160x256_S1x1x1x160x128_0_0_2_0_0, P02⟩, ⟨Rect.unit ![0, 0, 1, 0, 0] ![1, 1, 1, 160, 128] inb_S1x1x4x160x256_S1x1x1x160x128_0_0_1_0_0, P01⟩, ⟨Rect.unit ![0, 0, 0, 0, 0] ![1, 1, 1, 160, 128] inb_S1x1x4x160x256_S1x1x1x160x128_0_0_0_0_0, P00⟩] (ix5 0 0 2 p (lo t)) = P02 (ix5 0 0 0 p t) := by
  have n13 : (ix5 0 0 2 p (lo t) : S1x1x4x160x256.Idx) ∉ (Rect.unit (s := S1x1x4x160x256) ![0, 0, 3, 0, 128] ![1, 1, 1, 160, 128] inb_S1x1x4x160x256_S1x1x1x160x128_0_0_3_0_128).set :=
    fun hm => absurd ((Rect.mem_set_unit.mp hm) 2).1 (show ¬ (3 ≤ 2) from by decide)
  rw [View.canon_cons_of_not_mem ⟨Rect.unit (s := S1x1x4x160x256) ![0, 0, 3, 0, 128] ![1, 1, 1, 160, 128] inb_S1x1x4x160x256_S1x1x1x160x128_0_0_3_0_128, P13⟩ _ n13]
  have n12 : (ix5 0 0 2 p (lo t) : S1x1x4x160x256.Idx) ∉ (Rect.unit (s := S1x1x4x160x256) ![0, 0, 2, 0, 128] ![1, 1, 1, 160, 128] inb_S1x1x4x160x256_S1x1x1x160x128_0_0_2_0_128).set :=
    fun hm => absurd ((Rect.mem_set_unit.mp hm) 4).1 (show ¬ (128 ≤ t.val) from by omega)
  rw [View.canon_cons_of_not_mem ⟨Rect.unit (s := S1x1x4x160x256) ![0, 0, 2, 0, 128] ![1, 1, 1, 160, 128] inb_S1x1x4x160x256_S1x1x1x160x128_0_0_2_0_128, P12⟩ _ n12]
  have n11 : (ix5 0 0 2 p (lo t) : S1x1x4x160x256.Idx) ∉ (Rect.unit (s := S1x1x4x160x256) ![0, 0, 1, 0, 128] ![1, 1, 1, 160, 128] inb_S1x1x4x160x256_S1x1x1x160x128_0_0_1_0_128).set :=
    fun hm => absurd ((Rect.mem_set_unit.mp hm) 2).2 (show ¬ (2 < 1 + 1) from by decide)
  rw [View.canon_cons_of_not_mem ⟨Rect.unit (s := S1x1x4x160x256) ![0, 0, 1, 0, 128] ![1, 1, 1, 160, 128] inb_S1x1x4x160x256_S1x1x1x160x128_0_0_1_0_128, P11⟩ _ n11]
  have n10 : (ix5 0 0 2 p (lo t) : S1x1x4x160x256.Idx) ∉ (Rect.unit (s := S1x1x4x160x256) ![0, 0, 0, 0, 128] ![1, 1, 1, 160, 128] inb_S1x1x4x160x256_S1x1x1x160x128_0_0_0_0_128).set :=
    fun hm => absurd ((Rect.mem_set_unit.mp hm) 2).2 (show ¬ (2 < 0 + 1) from by decide)
  rw [View.canon_cons_of_not_mem ⟨Rect.unit (s := S1x1x4x160x256) ![0, 0, 0, 0, 128] ![1, 1, 1, 160, 128] inb_S1x1x4x160x256_S1x1x1x160x128_0_0_0_0_128, P10⟩ _ n10]
  have n03 : (ix5 0 0 2 p (lo t) : S1x1x4x160x256.Idx) ∉ (Rect.unit (s := S1x1x4x160x256) ![0, 0, 3, 0, 0] ![1, 1, 1, 160, 128] inb_S1x1x4x160x256_S1x1x1x160x128_0_0_3_0_0).set :=
    fun hm => absurd ((Rect.mem_set_unit.mp hm) 2).1 (show ¬ (3 ≤ 2) from by decide)
  rw [View.canon_cons_of_not_mem ⟨Rect.unit (s := S1x1x4x160x256) ![0, 0, 3, 0, 0] ![1, 1, 1, 160, 128] inb_S1x1x4x160x256_S1x1x1x160x128_0_0_3_0_0, P03⟩ _ n03]
  have e : (ix5 0 0 2 p (lo t) : S1x1x4x160x256.Idx) = (Rect.unit (s := S1x1x4x160x256) ![0, 0, 2, 0, 0] ![1, 1, 1, 160, 128] inb_S1x1x4x160x256_S1x1x1x160x128_0_0_2_0_0).emb (ix5 0 0 0 p t : S1x1x1x160x128.Idx) := by
    funext a; apply Fin.ext
    match a with
    | ⟨0, _⟩ => show 0 = 0 + 1 * 0; rfl
    | ⟨1, _⟩ => show 0 = 0 + 1 * 0; rfl
    | ⟨2, _⟩ => show 2 = 2 + 1 * 0; rfl
    | ⟨3, _⟩ => show p.val = 0 + 1 * p.val; omega
    | ⟨4, _⟩ => show t.val = 0 + 1 * t.val; omega
  rw [e]
  exact View.canon_cons_emb _ _ _ _

theorem pickY_0_1 (P13 P12 P11 P10 P03 P02 P01 P00 : Vec Ideal S1x1x1x160x128 .bf16) (p : Fin 160) (t : Fin 128) :
    View.canon (Val := Elt Ideal) (s := S1x1x4x160x256) (e := .bf16) [⟨Rect.unit ![0, 0, 3, 0, 128] ![1, 1, 1, 160, 128] inb_S1x1x4x160x256_S1x1x1x160x128_0_0_3_0_128, P13⟩, ⟨Rect.unit ![0, 0, 2, 0, 128] ![1, 1, 1, 160, 128] inb_S1x1x4x160x256_S1x1x1x160x128_0_0_2_0_128, P12⟩, ⟨Rect.unit ![0, 0, 1, 0, 128] ![1, 1, 1, 160, 128] inb_S1x1x4x160x256_S1x1x1x160x128_0_0_1_0_128, P11⟩, ⟨Rect.unit ![0, 0, 0, 0, 128] ![1, 1, 1, 160, 128] inb_S1x1x4x160x256_S1x1x1x160x128_0_0_0_0_128, P10⟩, ⟨Rect.unit ![0, 0, 3, 0, 0] ![1, 1, 1, 160, 128] inb_S1x1x4x160x256_S1x1x1x160x128_0_0_3_0_0, P03⟩, ⟨Rect.unit ![0, 0, 2, 0, 0] ![1, 1, 1, 160, 128] inb_S1x1x4x160x256_S1x1x1x160x128_0_0_2_0_0, P02⟩, ⟨Rect.unit ![0, 0, 1, 0, 0] ![1, 1, 1, 160, 128] inb_S1x1x4x160x256_S1x1x1x160x128_0_0_1_0_0, P01⟩, ⟨Rect.unit ![0, 0, 0, 0, 0] ![1, 1, 1, 160, 128] inb_S1x1x4x160x256_S1x1x1x160x128_0_0_0_0_0, P00⟩] (ix5 0 0 1 p (lo t)) = P01 (ix5 0 0 0 p t) := by
  have n13 : (ix5 0 0 1 p (lo t) : S1x1x4x160x256.Idx) ∉ (Rect.unit (s := S1x1x4x160x256) ![0, 0, 3, 0, 128] ![1, 1, 1, 160, 128] inb_S1x1x4x160x256_S1x1x1x160x128_0_0_3_0_128).set :=
    fun hm => absurd ((Rect.mem_set_unit.mp hm) 2).1 (show ¬ (3 ≤ 1) from by decide)
  rw [View.canon_cons_of_not_mem ⟨Rect.unit (s := S1x1x4x160x256) ![0, 0, 3, 0, 128] ![1, 1, 1, 160, 128] inb_S1x1x4x160x256_S1x1x1x160x128_0_0_3_0_128, P13⟩ _ n13]
  have n12 : (ix5 0 0 1 p (lo t) : S1x1x4x160x256.Idx) ∉ (Rect.unit (s := S1x1x4x160x256) ![0, 0, 2, 0, 128] ![1, 1, 1, 160, 128] inb_S1x1x4x160x256_S1x1x1x160x128_0_0_2_0_128).set :=
    fun hm => absurd ((Rect.mem_set_unit.mp hm) 2).1 (show ¬ (2 ≤ 1) from by decide)
  rw [View.canon_cons_of_not_mem ⟨Rect.unit (s := S1x1x4x160x256) ![0, 0, 2, 0, 128] ![1, 1, 1, 160, 128] inb_S1x1x4x160x256_S1x1x1x160x128_0_0_2_0_128, P12⟩ _ n12]
  have n11 : (ix5 0 0 1 p (lo t) : S1x1x4x160x256.Idx) ∉ (Rect.unit (s := S1x1x4x160x256) ![0, 0, 1, 0, 128] ![1, 1, 1, 160, 128] inb_S1x1x4x160x256_S1x1x1x160x128_0_0_1_0_128).set :=
    fun hm => absurd ((Rect.mem_set_unit.mp hm) 4).1 (show ¬ (128 ≤ t.val) from by omega)
  rw [View.canon_cons_of_not_mem ⟨Rect.unit (s := S1x1x4x160x256) ![0, 0, 1, 0, 128] ![1, 1, 1, 160, 128] inb_S1x1x4x160x256_S1x1x1x160x128_0_0_1_0_128, P11⟩ _ n11]
  have n10 : (ix5 0 0 1 p (lo t) : S1x1x4x160x256.Idx) ∉ (Rect.unit (s := S1x1x4x160x256) ![0, 0, 0, 0, 128] ![1, 1, 1, 160, 128] inb_S1x1x4x160x256_S1x1x1x160x128_0_0_0_0_128).set :=
    fun hm => absurd ((Rect.mem_set_unit.mp hm) 2).2 (show ¬ (1 < 0 + 1) from by decide)
  rw [View.canon_cons_of_not_mem ⟨Rect.unit (s := S1x1x4x160x256) ![0, 0, 0, 0, 128] ![1, 1, 1, 160, 128] inb_S1x1x4x160x256_S1x1x1x160x128_0_0_0_0_128, P10⟩ _ n10]
  have n03 : (ix5 0 0 1 p (lo t) : S1x1x4x160x256.Idx) ∉ (Rect.unit (s := S1x1x4x160x256) ![0, 0, 3, 0, 0] ![1, 1, 1, 160, 128] inb_S1x1x4x160x256_S1x1x1x160x128_0_0_3_0_0).set :=
    fun hm => absurd ((Rect.mem_set_unit.mp hm) 2).1 (show ¬ (3 ≤ 1) from by decide)
  rw [View.canon_cons_of_not_mem ⟨Rect.unit (s := S1x1x4x160x256) ![0, 0, 3, 0, 0] ![1, 1, 1, 160, 128] inb_S1x1x4x160x256_S1x1x1x160x128_0_0_3_0_0, P03⟩ _ n03]
  have n02 : (ix5 0 0 1 p (lo t) : S1x1x4x160x256.Idx) ∉ (Rect.unit (s := S1x1x4x160x256) ![0, 0, 2, 0, 0] ![1, 1, 1, 160, 128] inb_S1x1x4x160x256_S1x1x1x160x128_0_0_2_0_0).set :=
    fun hm => absurd ((Rect.mem_set_unit.mp hm) 2).1 (show ¬ (2 ≤ 1) from by decide)
  rw [View.canon_cons_of_not_mem ⟨Rect.unit (s := S1x1x4x160x256) ![0, 0, 2, 0, 0] ![1, 1, 1, 160, 128] inb_S1x1x4x160x256_S1x1x1x160x128_0_0_2_0_0, P02⟩ _ n02]
  have e : (ix5 0 0 1 p (lo t) : S1x1x4x160x256.Idx) = (Rect.unit (s := S1x1x4x160x256) ![0, 0, 1, 0, 0] ![1, 1, 1, 160, 128] inb_S1x1x4x160x256_S1x1x1x160x128_0_0_1_0_0).emb (ix5 0 0 0 p t : S1x1x1x160x128.Idx) := by
    funext a; apply Fin.ext
    match a with
    | ⟨0, _⟩ => show 0 = 0 + 1 * 0; rfl
    | ⟨1, _⟩ => show 0 = 0 + 1 * 0; rfl
    | ⟨2, _⟩ => show 1 = 1 + 1 * 0; rfl
    | ⟨3, _⟩ => show p.val = 0 + 1 * p.val; omega
    | ⟨4, _⟩ => show t.val = 0 + 1 * t.val; omega
  rw [e]
  exact View.canon_cons_emb _ _ _ _

theorem pickY_0_0 (P13 P12 P11 P10 P03 P02 P01 P00 : Vec Ideal S1x1x1x160x128 .bf16) (p : Fin 160) (t : Fin 128) :
    View.canon (Val := Elt Ideal) (s := S1x1x4x160x256) (e := .bf16) [⟨Rect.unit ![0, 0, 3, 0, 128] ![1, 1, 1, 160, 128] inb_S1x1x4x160x256_S1x1x1x160x128_0_0_3_0_128, P13⟩, ⟨Rect.unit ![0, 0, 2, 0, 128] ![1, 1, 1, 160, 128] inb_S1x1x4x160x256_S1x1x1x160x128_0_0_2_0_128, P12⟩, ⟨Rect.unit ![0, 0, 1, 0, 128] ![1, 1, 1, 160, 128] inb_S1x1x4x160x256_S1x1x1x160x128_0_0_1_0_128, P11⟩, ⟨Rect.unit ![0, 0, 0, 0, 128] ![1, 1, 1, 160, 128] inb_S1x1x4x160x256_S1x1x1x160x128_0_0_0_0_128, P10⟩, ⟨Rect.unit ![0, 0, 3, 0, 0] ![1, 1, 1, 160, 128] inb_S1x1x4x160x256_S1x1x1x160x128_0_0_3_0_0, P03⟩, ⟨Rect.unit ![0, 0, 2, 0, 0] ![1, 1, 1, 160, 128] inb_S1x1x4x160x256_S1x1x1x160x128_0_0_2_0_0, P02⟩, ⟨Rect.unit ![0, 0, 1, 0, 0] ![1, 1, 1, 160, 128] inb_S1x1x4x160x256_S1x1x1x160x128_0_0_1_0_0, P01⟩, ⟨Rect.unit ![0, 0, 0, 0, 0] ![1, 1, 1, 160, 128] inb_S1x1x4x160x256_S1x1x1x160x128_0_0_0_0_0, P00⟩] (ix5 0 0 0 p (lo t)) = P00 (ix5 0 0 0 p t) := by
  have n13 : (ix5 0 0 0 p (lo t) : S1x1x4x160x256.Idx) ∉ (Rect.unit (s := S1x1x4x160x256) ![0, 0, 3, 0, 128] ![1, 1, 1, 160, 128] inb_S1x1x4x160x256_S1x1x1x160x128_0_0_3_0_128).set :=
    fun hm => absurd ((Rect.mem_set_unit.mp hm) 2).1 (show ¬ (3 ≤ 0) from by decide)
  rw [View.canon_cons_of_not_mem ⟨Rect.unit (s := S1x1x4x160x256) ![0, 0, 3, 0, 128] ![1, 1, 1, 160, 128] inb_S1x1x4x160x256_S1x1x1x160x128_0_0_3_0_128, P13⟩ _ n13]
  have n12 : (ix5 0 0 0 p (lo t) : S1x1x4x160x256.Idx) ∉ (Rect.unit (s := S1x1x4x160x256) ![0, 0, 2, 0, 128] ![1, 1, 1, 160, 128] inb_S1x1x4x160x256_S1x1x1x160x128_0_0_2_0_128).set :=
    fun hm => absurd ((Rect.mem_set_unit.mp hm) 2).1 (show ¬ (2 ≤ 0) from by decide)
  rw [View.canon_cons_of_not_mem ⟨Rect.unit (s := S1x1x4x160x256) ![0, 0, 2, 0, 128] ![1, 1, 1, 160, 128] inb_S1x1x4x160x256_S1x1x1x160x128_0_0_2_0_128, P12⟩ _ n12]
  have n11 : (ix5 0 0 0 p (lo t) : S1x1x4x160x256.Idx) ∉ (Rect.unit (s := S1x1x4x160x256) ![0, 0, 1, 0, 128] ![1, 1, 1, 160, 128] inb_S1x1x4x160x256_S1x1x1x160x128_0_0_1_0_128).set :=
    fun hm => absurd ((Rect.mem_set_unit.mp hm) 2).1 (show ¬ (1 ≤ 0) from by decide)
  rw [View.canon_cons_of_not_mem ⟨Rect.unit (s := S1x1x4x160x256) ![0, 0, 1, 0, 128] ![1, 1, 1, 160, 128] inb_S1x1x4x160x256_S1x1x1x160x128_0_0_1_0_128, P11⟩ _ n11]
  have n10 : (ix5 0 0 0 p (lo t) : S1x1x4x160x256.Idx) ∉ (Rect.unit (s := S1x1x4x160x256) ![0, 0, 0, 0, 128] ![1, 1, 1, 160, 128] inb_S1x1x4x160x256_S1x1x1x160x128_0_0_0_0_128).set :=
    fun hm => absurd ((Rect.mem_set_unit.mp hm) 4).1 (show ¬ (128 ≤ t.val) from by omega)
  rw [View.canon_cons_of_not_mem ⟨Rect.unit (s := S1x1x4x160x256) ![0, 0, 0, 0, 128] ![1, 1, 1, 160, 128] inb_S1x1x4x160x256_S1x1x1x160x128_0_0_0_0_128, P10⟩ _ n10]
  have n03 : (ix5 0 0 0 p (lo t) : S1x1x4x160x256.Idx) ∉ (Rect.unit (s := S1x1x4x160x256) ![0, 0, 3, 0, 0] ![1, 1, 1, 160, 128] inb_S1x1x4x160x256_S1x1x1x160x128_0_0_3_0_0).set :=
    fun hm => absurd ((Rect.mem_set_unit.mp hm) 2).1 (show ¬ (3 ≤ 0) from by decide)
  rw [View.canon_cons_of_not_mem ⟨Rect.unit (s := S1x1x4x160x256) ![0, 0, 3, 0, 0] ![1, 1, 1, 160, 128] inb_S1x1x4x160x256_S1x1x1x160x128_0_0_3_0_0, P03⟩ _ n03]
  have n02 : (ix5 0 0 0 p (lo t) : S1x1x4x160x256.Idx) ∉ (Rect.unit (s := S1x1x4x160x256) ![0, 0, 2, 0, 0] ![1, 1, 1, 160, 128] inb_S1x1x4x160x256_S1x1x1x160x128_0_0_2_0_0).set :=
    fun hm => absurd ((Rect.mem_set_unit.mp hm) 2).1 (show ¬ (2 ≤ 0) from by decide)
  rw [View.canon_cons_of_not_mem ⟨Rect.unit (s := S1x1x4x160x256) ![0, 0, 2, 0, 0] ![1, 1, 1, 160, 128] inb_S1x1x4x160x256_S1x1x1x160x128_0_0_2_0_0, P02⟩ _ n02]
  have n01 : (ix5 0 0 0 p (lo t) : S1x1x4x160x256.Idx) ∉ (Rect.unit (s := S1x1x4x160x256) ![0, 0, 1, 0, 0] ![1, 1, 1, 160, 128] inb_S1x1x4x160x256_S1x1x1x160x128_0_0_1_0_0).set :=
    fun hm => absurd ((Rect.mem_set_unit.mp hm) 2).1 (show ¬ (1 ≤ 0) from by decide)
  rw [View.canon_cons_of_not_mem ⟨Rect.unit (s := S1x1x4x160x256) ![0, 0, 1, 0, 0] ![1, 1, 1, 160, 128] inb_S1x1x4x160x256_S1x1x1x160x128_0_0_1_0_0, P01⟩ _ n01]
  have e : (ix5 0 0 0 p (lo t) : S1x1x4x160x256.Idx) = (Rect.unit (s := S1x1x4x160x256) ![0, 0, 0, 0, 0] ![1, 1, 1, 160, 128] inb_S1x1x4x160x256_S1x1x1x160x128_0_0_0_0_0).emb (ix5 0 0 0 p t : S1x1x1x160x128.Idx) := by
    funext a; apply Fin.ext
    match a with
    | ⟨0, _⟩ => show 0 = 0 + 1 * 0; rfl
    | ⟨1, _⟩ => show 0 = 0 + 1 * 0; rfl
    | ⟨2, _⟩ => show 0 = 0 + 1 * 0; rfl
    | ⟨3, _⟩ => show p.val = 0 + 1 * p.val; omega
    | ⟨4, _⟩ => show t.val = 0 + 1 * t.val; omega
  rw [e]
  exact View.canon_cons_emb _ _ _ _

theorem bodyYAt_0 (i : grid0.Coords) (x0 : Vec Ideal S1x1x4x160x256 .fp8e4m3) (x1 x2 : Vec Ideal S1x1x4x64x256 .fp8e4m3) (x3 x4 x5 : Vec Ideal S1x20x256 .f32) (x10 : Vec Ideal S1x1x64x160 .f32) (xs1 xs2 xs3 xs4 xs5 : Vec Ideal S2x20x128 .f32) (s : Fin 4) (p : Fin 160) (t : Fin 128) : (bodyY i x0 x1 x2 x3 x4 x5 x10 xs1 xs2 xs3 xs4 xs5) (ix5 0 0 s p (lo t)) =
    yc (fun r p j => x0 (ix5 0 0 r p (lo j))) (fun r n j => x1 (ix5 0 0 r n (lo j))) (fun r n j => x2 (ix5 0 0 r n (lo j))) (fun j => x3 (ix3 0 (i 1) (lo j))) (fun j => x4 (ix3 0 (i 1) (lo j))) (fun j => x5 (ix3 0 (i 1) (lo j))) (fun j => xs1 (ix3 0 (i 1) j)) (fun j => xs2 (ix3 0 (i 1) j)) (fun j => xs3 (ix3 0 (i 1) j)) (fun n p => x10 (ix4 0 0 n p)) s p t := by
  match s with
  | 0 => exact (pickY_0_0 _ _ _ _ _ _ _ _ p t).trans (y0_0 i x0 x1 x2 x3 x4 x5 x10 xs1 xs2 xs3 xs4 xs5 p t)
  | 1 => exact (pickY_0_1 _ _ _ _ _ _ _ _ p t).trans (y0_1 i x0 x1 x2 x3 x4 x5 x10 xs1 xs2 xs3 xs4 xs5 p t)
  | 2 => exact (pickY_0_2 _ _ _ _ _ _ _ _ p t).trans (y0_2 i x0 x1 x2 x3 x4 x5 x10 xs1 xs2 xs3 xs4 xs5 p t)
  | 3 => exact (pickY_0_3 _ _ _ _ _ _ _ _ p t).trans (y0_3 i x0 x1 x2 x3 x4 x5 x10 xs1 xs2 xs3 xs4 xs5 p t)

theorem bodyYAt_1 (i : grid0.Coords) (x0 : Vec Ideal S1x1x4x160x256 .fp8e4m3) (x1 x2 : Vec Ideal S1x1x4x64x256 .fp8e4m3) (x3 x4 x5 : Vec Ideal S1x20x256 .f32) (x10 : Vec Ideal S1x1x64x160 .f32) (xs1 xs2 xs3 xs4 xs5 : Vec Ideal S2x20x128 .f32) (s : Fin 4) (p : Fin 160) (t : Fin 128) : (bodyY i x0 x1 x2 x3 x4 x5 x10 xs1 xs2 xs3 xs4 xs5) (ix5 0 0 s p (hi t)) =
    yc (fun r p j => x0 (ix5 0 0 r p (hi j))) (fun r n j => x1 (ix5 0 0 r n (hi j))) (fun r n j => x2 (ix5 0 0 r n (hi j))) (fun j => x3 (ix3 0 (i 1) (hi j))) (fun j => x4 (ix3 0 (i 1) (hi j))) (fun j => x5 (ix3 0 (i 1) (hi j))) (fun j => xs1 (ix3 1 (i 1) j)) (fun j => xs2 (ix3 1 (i 1) j)) (fun j => xs3 (ix3 1 (i 1) j)) (fun n p => w_72 i x0 x1 x2 x3 x4 x5 x10 xs1 xs2 xs3 xs4 xs5 (ix2 n p)) s p t := by
  match s with
  | 0 => exact (pickY_1_0 _ _ _ _ _ _ _ _ p t).trans (y1_0 i x0 x1 x2 x3 x4 x5 x10 xs1 xs2 xs3 xs4 xs5 p t)
  | 1 => exact (pickY_1_1 _ _ _ _ _ _ _ _ p t).trans (y1_1 i x0 x1 x2 x3 x4 x5 x10 xs1 xs2 xs3 xs4 xs5 p t)
  | 2 => exact (pickY_1_2 _ _ _ _ _ _ _ _ p t).trans (y1_2 i x0 x1 x2 x3 x4 x5 x10 xs1 xs2 xs3 xs4 xs5 p t)
  | 3 => exact (pickY_1_3 _ _ _ _ _ _ _ _ p t).trans (y1_3 i x0 x1 x2 x3 x4 x5 x10 xs1 xs2 xs3 xs4 xs5 p t)

theorem bodySAt (i : grid0.Coords) (x0 : Vec Ideal S1x1x4x160x256 .fp8e4m3) (x1 x2 : Vec Ideal S1x1x4x64x256 .fp8e4m3) (x3 x4 x5 : Vec Ideal S1x20x256 .f32) (x10 : Vec Ideal S1x1x64x160 .f32) (xs1 xs2 xs3 xs4 xs5 : Vec Ideal S2x20x128 .f32) (n : Fin 64) (p : Fin 160) : (bodyS i x0 x1 x2 x3 x4 x5 x10 xs1 xs2 xs3 xs4 xs5) (ix4 0 0 n p) = w_75 i x0 x1 x2 x3 x4 x5 x10 xs1 xs2 xs3 xs4 xs5 (ix2 n p) := by
  unfold bodyS
  pointwise [k0_pay1]

theorem k3_eq (x6 : Vec Ideal S1x20x256 .f32) (x7 x8 : Vec Ideal S20x1 .f32) (b : Fin 20) (j : Fin 256) :
    k0_pay3 x6 x7 x8 (ix2 b j) = ell (x6 (ix3 0 b j) + x7 (ix2 b 0)) (x8 (ix2 b 0)) := by
  pointwise [k0_pay3, k0_pay2]
  simp only [ell, sp, zero_sub]

theorem k5_eq (x6 : Vec Ideal S1x20x256 .f32) (x7 : Vec Ideal S20x1 .f32) (x9 : Vec Ideal S1x20x256 .f32) (b : Fin 20) (j : Fin 256) :
    k0_pay5 x6 x7 x9 (ix2 b j) = gm (x6 (ix3 0 b j) + x7 (ix2 b 0)) (x9 (ix3 0 b j)) := by
  pointwise [k0_pay5, k0_pay4, k0_pay2]
  simp only [gm, sp, zero_sub, Ideal.logistic]

theorem k6_eq (x6 : Vec Ideal S1x20x256 .f32) (x7 : Vec Ideal S20x1 .f32) (x9 : Vec Ideal S1x20x256 .f32) (b : Fin 20) (j : Fin 256) :
    k0_pay6 x6 x7 x9 (ix2 b j) = kp (x6 (ix3 0 b j) + x7 (ix2 b 0)) (x9 (ix3 0 b j)) := by
  pointwise [k0_pay6, k0_pay4, k0_pay2]
  simp only [kp, sp, zero_sub, Ideal.logistic]

end Cert.KernelIdeal.Scan
-- ==== Proof.Scan.Out.lean ====
module

public import proofs.«01_k».proof.Proof.Scan.Goal
public import proofs.«01_k».proof.Proof.Scan.Blk
public import proofs.«01_k».proof.Proof.Scan.Kern
public import proofs.«01_k».proof.Proof.Gen.KernelIdeal.Value

@[expose] public section
set_option maxRecDepth 16384

noncomputable section
open Idealize.ShloMosaic Idealize.ShloMosaic.TcCoe
namespace Cert.KernelIdeal.Scan
open Cert.Scan Cert.KernelIdeal Cert.KernelIdeal.Gen Cert.KernelIdeal.Value

variable (m : (ℓ : Loc nD τ sig) → Buf (Elt Ideal) ℓ)

/-- The block of window 6 at the points of batch `q`. -/
def B6 (c : Dev nD) (q : Fin 6) : Vec Ideal S1x20x256 .f32 := fun y => (V m c main_v0 : Vec Ideal S6x20x256 .f32) (ix3 q (y 1) (y 2))
theorem iblkB6 (c : Dev nD) (t : Fin cfg0.N) (q : Fin 6) (hq : t.val / 20 = q.val) : (iblk m c 6 t : Vec Ideal S1x20x256 .f32) = B6 m c q := by
  funext y
  have hy : y = (ix3 0 (y 1) (y 2) : S1x20x256.Idx) := by
    funext a; apply Fin.ext
    match a with
    | ⟨0, _⟩ => exact (Nat.lt_one_iff.mp (y 0).isLt)
    | ⟨1, _⟩ => rfl
    | ⟨2, _⟩ => rfl
  rw [hy]
  exact iblk6 m c t q ⟨t.val % 20, Nat.mod_lt _ (by decide)⟩ hq rfl (y 1) (y 2)

/-- The block of window 9 at the points of batch `q`. -/
def B9 (c : Dev nD) (q : Fin 6) : Vec Ideal S1x20x256 .f32 := fun y => (V m c main_v3 : Vec Ideal S6x20x256 .f32) (ix3 q (y 1) (y 2))
theorem iblkB9 (c : Dev nD) (t : Fin cfg0.N) (q : Fin 6) (hq : t.val / 20 = q.val) : (iblk m c 9 t : Vec Ideal S1x20x256 .f32) = B9 m c q := by
  funext y
  have hy : y = (ix3 0 (y 1) (y 2) : S1x20x256.Idx) := by
    funext a; apply Fin.ext
    match a with
    | ⟨0, _⟩ => exact (Nat.lt_one_iff.mp (y 0).isLt)
    | ⟨1, _⟩ => rfl
    | ⟨2, _⟩ => rfl
  rw [hy]
  exact iblk9 m c t q ⟨t.val % 20, Nat.mod_lt _ (by decide)⟩ hq rfl (y 1) (y 2)

/-- The block of window 7 at the points of batch `q`. -/
def B7 (c : Dev nD) : Vec Ideal S20x1 .f32 := fun y => (V m c main_v1 : Vec Ideal S20x1 .f32) (ix2 (y 0) 0)
theorem iblkB7 (c : Dev nD) (t : Fin cfg0.N) (q : Fin 6) (hq : t.val / 20 = q.val) : (iblk m c 7 t : Vec Ideal S20x1 .f32) = B7 m c := by
  funext y
  have hy : y = (ix2 (y 0) 0 : S20x1.Idx) := by
    funext a; apply Fin.ext
    match a with
    | ⟨0, _⟩ => rfl
    | ⟨1, _⟩ => exact (Nat.lt_one_iff.mp (y 1).isLt)
  rw [hy]
  exact iblk7 m c t q ⟨t.val % 20, Nat.mod_lt _ (by decide)⟩ hq rfl (y 0)

/-- The block of window 8 at the points of batch `q`. -/
def B8 (c : Dev nD) : Vec Ideal S20x1 .f32 := fun y => (V m c main_v2 : Vec Ideal S20x1 .f32) (ix2 (y 0) 0)
theorem iblkB8 (c : Dev nD) (t : Fin cfg0.N) (q : Fin 6) (hq : t.val / 20 = q.val) : (iblk m c 8 t : Vec Ideal S20x1 .f32) = B8 m c := by
  funext y
  have hy : y = (ix2 (y 0) 0 : S20x1.Idx) := by
    funext a; apply Fin.ext
    match a with
    | ⟨0, _⟩ => rfl
    | ⟨1, _⟩ => exact (Nat.lt_one_iff.mp (y 1).isLt)
  rw [hy]
  exact iblk8 m c t q ⟨t.val % 20, Nat.mod_lt _ (by decide)⟩ hq rfl (y 0)

theorem outs (c : Dev nD) : ∀ (n : Nat) (t : Fin cfg0.N) (q : Fin 6) (_ : t.val = n) (hq : t.val / 20 = q.val),
    outsAt0 m c t.val t.isLt = (bodyY (grid0.coords t) (iblk m c 0 t) (iblk m c 1 t) (iblk m c 2 t) (iblk m c 3 t) (iblk m c 4 t) (iblk m c 5 t) (iblk m c 10 t) (row1 (B6 m c q) (B7 m c) (B8 m c) (B9 m c q)) (row2 (B6 m c q) (B7 m c) (B8 m c) (B9 m c q)) (row3 (B6 m c q) (B7 m c) (B8 m c) (B9 m c q)) (row4 (B6 m c q) (B7 m c) (B8 m c) (B9 m c q)) (row5 (B6 m c q) (B7 m c) (B8 m c) (B9 m c q)), bodyS (grid0.coords t) (iblk m c 0 t) (iblk m c 1 t) (iblk m c 2 t) (iblk m c 3 t) (iblk m c 4 t) (iblk m c 5 t) (iblk m c 10 t) (row1 (B6 m c q) (B7 m c) (B8 m c) (B9 m c q)) (row2 (B6 m c q) (B7 m c) (B8 m c) (B9 m c q)) (row3 (B6 m c q) (B7 m c) (B8 m c) (B9 m c q)) (row4 (B6 m c q) (B7 m c) (B8 m c) (B9 m c q)) (row5 (B6 m c q) (B7 m c) (B8 m c) (B9 m c q)), (row1 (B6 m c q) (B7 m c) (B8 m c) (B9 m c q)), (row2 (B6 m c q) (B7 m c) (B8 m c) (B9 m c q)), (row3 (B6 m c q) (B7 m c) (B8 m c) (B9 m c q)), (row4 (B6 m c q) (B7 m c) (B8 m c) (B9 m c q)), (row5 (B6 m c q) (B7 m c) (B8 m c) (B9 m c q))) := by
  intro n
  induction n with
  | zero =>
    intro t q hn hq
    rw [outsAt0_A m c t (by rw [hn])]
    rw [out0_A_11_eq, out0_A_12_eq, sout0_A_1_eq, sout0_A_2_eq, sout0_A_3_eq, sout0_A_4_eq, sout0_A_5_eq, iblkB6 m c t q hq, iblkB7 m c t q hq, iblkB8 m c t q hq, iblkB9 m c t q hq]
  | succ n ih =>
    intro t q hn hq
    by_cases h0 : t.val % 20 = 0
    · rw [outsAt0_A m c t h0]
      rw [out0_A_11_eq, out0_A_12_eq, sout0_A_1_eq, sout0_A_2_eq, sout0_A_3_eq, sout0_A_4_eq, sout0_A_5_eq, iblkB6 m c t q hq, iblkB7 m c t q hq, iblkB8 m c t q hq, iblkB9 m c t q hq]
    · rw [outsAt0_B m c t h0]
      have hp := ih ⟨t.val - 1, Nat.lt_of_le_of_lt (Nat.sub_le _ _) t.isLt⟩ q (by show t.val - 1 = n; omega) (by show (t.val - 1) / 20 = q.val; omega)
      rw [out0_B_11_eq, out0_B_12_eq, sout0_B_1_eq, sout0_B_2_eq, sout0_B_3_eq, sout0_B_4_eq, sout0_B_5_eq]
      rw [show outsAt0 m c (t.val - 1) (Nat.lt_of_le_of_lt (Nat.sub_le _ _) t.isLt) = _ from hp]

theorem k3B (c : Dev nD) (q : Fin 6) (h : Fin 20) (f : Fin 128 → Fin 256) :
    (fun j => k0_pay3 (B6 m c q) (B7 m c) (B8 m c) (ix2 h (f j))) = eA (m (c, main_arg6)) (m (c, main_arg7)) (m (c, main_arg8)) q h f := by
  funext j
  rw [k3_eq, show B6 m c q (ix3 0 h (f j)) = _ from V0_eq m c q h (f j), show B7 m c (ix2 h 0) = _ from V1_eq m c h, show B8 m c (ix2 h 0) = _ from V2_eq m c h]
  rfl

theorem k5B (c : Dev nD) (q : Fin 6) (h : Fin 20) (f : Fin 128 → Fin 256) :
    (fun j => k0_pay5 (B6 m c q) (B7 m c) (B9 m c q) (ix2 h (f j))) = gA (m (c, main_arg6)) (m (c, main_arg7)) (m (c, main_arg9)) q h f := by
  funext j
  rw [k5_eq, show B6 m c q (ix3 0 h (f j)) = _ from V0_eq m c q h (f j), show B7 m c (ix2 h 0) = _ from V1_eq m c h, show B9 m c q (ix3 0 h (f j)) = _ from V3_eq m c q h (f j)]
  rfl

theorem k6B (c : Dev nD) (q : Fin 6) (h : Fin 20) (f : Fin 128 → Fin 256) :
    (fun j => k0_pay6 (B6 m c q) (B7 m c) (B9 m c q) (ix2 h (f j))) = kA (m (c, main_arg6)) (m (c, main_arg7)) (m (c, main_arg9)) q h f := by
  funext j
  rw [k6_eq, show B6 m c q (ix3 0 h (f j)) = _ from V0_eq m c q h (f j), show B7 m c (ix2 h 0) = _ from V1_eq m c h, show B9 m c q (ix3 0 h (f j)) = _ from V3_eq m c q h (f j)]
  rfl

theorem finite (c : Dev nD) (hf : ∀ (q : Fin 6) (h : Fin 20) (f : Fin 128 → Fin 256) (j : Fin 128), eA (m (c, main_arg6)) (m (c, main_arg7)) (m (c, main_arg8)) q h f j ≠ ⊤) (q : Fin 6) (b : Fin 20) (j : Fin 256) :
    (k0_pay3 (B6 m c q) (B7 m c) (B8 m c) (ix2 b j) : EReal) ≠ ⊤ := by
  have e := congrFun (k3B m c q b (fun _ => j)) 0
  rw [show k0_pay3 (B6 m c q) (B7 m c) (B8 m c) (ix2 b j) = _ from e]
  exact hf q b (fun _ => j) 0

theorem rowB1_0 (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) :
    (fun j => row1 (B6 m c q) (B7 m c) (B8 m c) (B9 m c q) (ix3 0 h j)) = fun j => Lk (eA (m (c, main_arg6)) (m (c, main_arg7)) (m (c, main_arg8)) q h lo) j := by
  funext j
  rw [rowAt1_0 _ _ _ _ (finite m c hf q)]
  simp only [k3B, k5B, k6B]

theorem rowB2_0 (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) :
    (fun j => row2 (B6 m c q) (B7 m c) (B8 m c) (B9 m c q) (ix3 0 h j)) = (gA (m (c, main_arg6)) (m (c, main_arg7)) (m (c, main_arg9)) q h lo) := by
  funext j
  rw [rowAt2_0 _ _ _ _ (finite m c hf q)]
  exact congrFun (k5B m c q h lo) j

theorem rowB3_0 (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) :
    (fun j => row3 (B6 m c q) (B7 m c) (B8 m c) (B9 m c q) (ix3 0 h j)) = gkf (gA (m (c, main_arg6)) (m (c, main_arg7)) (m (c, main_arg9)) q h lo) (kA (m (c, main_arg6)) (m (c, main_arg7)) (m (c, main_arg9)) q h lo) := by
  funext j
  rw [rowAt3_0 _ _ _ _ (finite m c hf q)]
  simp only [k3B, k5B, k6B]

theorem rowB4_0 (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) :
    (fun j => row4 (B6 m c q) (B7 m c) (B8 m c) (B9 m c q) (ix3 0 h j)) = (kA (m (c, main_arg6)) (m (c, main_arg7)) (m (c, main_arg9)) q h lo) := by
  funext j
  rw [rowAt4_0 _ _ _ _ (finite m c hf q)]
  exact congrFun (k6B m c q h lo) j

theorem rowB5_0 (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) :
    (fun j => row5 (B6 m c q) (B7 m c) (B8 m c) (B9 m c q) (ix3 0 h j)) = fun j => wlf (eA (m (c, main_arg6)) (m (c, main_arg7)) (m (c, main_arg8)) q h lo) (gA (m (c, main_arg6)) (m (c, main_arg7)) (m (c, main_arg9)) q h lo) (kA (m (c, main_arg6)) (m (c, main_arg7)) (m (c, main_arg9)) q h lo) j := by
  funext j
  rw [rowAt5_0 _ _ _ _ (finite m c hf q)]
  simp only [k3B, k5B, k6B]

theorem rowB1_1 (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) :
    (fun j => row1 (B6 m c q) (B7 m c) (B8 m c) (B9 m c q) (ix3 1 h j)) = fun j => Lk (eA (m (c, main_arg6)) (m (c, main_arg7)) (m (c, main_arg8)) q h hi) j := by
  funext j
  rw [rowAt1_1 _ _ _ _ (finite m c hf q)]
  simp only [k3B, k5B, k6B]

theorem rowB2_1 (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) :
    (fun j => row2 (B6 m c q) (B7 m c) (B8 m c) (B9 m c q) (ix3 1 h j)) = (gA (m (c, main_arg6)) (m (c, main_arg7)) (m (c, main_arg9)) q h hi) := by
  funext j
  rw [rowAt2_1 _ _ _ _ (finite m c hf q)]
  exact congrFun (k5B m c q h hi) j

theorem rowB3_1 (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) :
    (fun j => row3 (B6 m c q) (B7 m c) (B8 m c) (B9 m c q) (ix3 1 h j)) = gkf (gA (m (c, main_arg6)) (m (c, main_arg7)) (m (c, main_arg9)) q h hi) (kA (m (c, main_arg6)) (m (c, main_arg7)) (m (c, main_arg9)) q h hi) := by
  funext j
  rw [rowAt3_1 _ _ _ _ (finite m c hf q)]
  simp only [k3B, k5B, k6B]

theorem rowB4_1 (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) :
    (fun j => row4 (B6 m c q) (B7 m c) (B8 m c) (B9 m c q) (ix3 1 h j)) = (kA (m (c, main_arg6)) (m (c, main_arg7)) (m (c, main_arg9)) q h hi) := by
  funext j
  rw [rowAt4_1 _ _ _ _ (finite m c hf q)]
  exact congrFun (k6B m c q h hi) j

theorem rowB5_1 (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) :
    (fun j => row5 (B6 m c q) (B7 m c) (B8 m c) (B9 m c q) (ix3 1 h j)) = fun j => wlf (eA (m (c, main_arg6)) (m (c, main_arg7)) (m (c, main_arg8)) q h hi) (gA (m (c, main_arg6)) (m (c, main_arg7)) (m (c, main_arg9)) q h hi) (kA (m (c, main_arg6)) (m (c, main_arg7)) (m (c, main_arg9)) q h hi) j := by
  funext j
  rw [rowAt5_1 _ _ _ _ (finite m c hf q)]
  simp only [k3B, k5B, k6B]

theorem rd0 (c : Dev nD) (t : Fin cfg0.N) (q : Fin 6) (h : Fin 20) (hq : t.val / 20 = q.val) (hh : t.val % 20 = h.val) (r : Fin 4) (p : Fin 160) (j : Fin 256) :
    (iblk m c 0 t : Vec Ideal S1x1x4x160x256 .fp8e4m3) (ix5 0 0 r p j) = (m (c, main_arg0) : Vec Ideal S6x20x4x160x256 .fp8e4m3) (ix5 q h r p j) :=
  (iblk0 m c t q h hq hh r p j).trans (congrFun (V_main_arg0 m c) _)

theorem rd1 (c : Dev nD) (t : Fin cfg0.N) (q : Fin 6) (h : Fin 20) (hq : t.val / 20 = q.val) (hh : t.val % 20 = h.val) (r : Fin 4) (n : Fin 64) (j : Fin 256) :
    (iblk m c 1 t : Vec Ideal S1x1x4x64x256 .fp8e4m3) (ix5 0 0 r n j) = (m (c, main_arg1) : Vec Ideal S6x20x4x64x256 .fp8e4m3) (ix5 q h r n j) :=
  (iblk1 m c t q h hq hh r n j).trans (congrFun (V_main_arg1 m c) _)

theorem rd2 (c : Dev nD) (t : Fin cfg0.N) (q : Fin 6) (h : Fin 20) (hq : t.val / 20 = q.val) (hh : t.val % 20 = h.val) (r : Fin 4) (n : Fin 64) (j : Fin 256) :
    (iblk m c 2 t : Vec Ideal S1x1x4x64x256 .fp8e4m3) (ix5 0 0 r n j) = (m (c, main_arg2) : Vec Ideal S6x20x4x64x256 .fp8e4m3) (ix5 q h r n j) :=
  (iblk2 m c t q h hq hh r n j).trans (congrFun (V_main_arg2 m c) _)

theorem rd3 (c : Dev nD) (t : Fin cfg0.N) (q : Fin 6) (h : Fin 20) (hq : t.val / 20 = q.val) (hh : t.val % 20 = h.val) (j : Fin 256) :
    (iblk m c 3 t : Vec Ideal S1x20x256 .f32) (ix3 0 h j) = (m (c, main_arg3) : Vec Ideal S6x20x256 .f32) (ix3 q h j) :=
  (iblk3 m c t q h hq hh h j).trans (congrFun (V_main_arg3 m c) _)

theorem rd4 (c : Dev nD) (t : Fin cfg0.N) (q : Fin 6) (h : Fin 20) (hq : t.val / 20 = q.val) (hh : t.val % 20 = h.val) (j : Fin 256) :
    (iblk m c 4 t : Vec Ideal S1x20x256 .f32) (ix3 0 h j) = (m (c, main_arg4) : Vec Ideal S6x20x256 .f32) (ix3 q h j) :=
  (iblk4 m c t q h hq hh h j).trans (congrFun (V_main_arg4 m c) _)

theorem rd5 (c : Dev nD) (t : Fin cfg0.N) (q : Fin 6) (h : Fin 20) (hq : t.val / 20 = q.val) (hh : t.val % 20 = h.val) (j : Fin 256) :
    (iblk m c 5 t : Vec Ideal S1x20x256 .f32) (ix3 0 h j) = (m (c, main_arg5) : Vec Ideal S6x20x256 .f32) (ix3 q h j) :=
  (iblk5 m c t q h hq hh h j).trans (congrFun (V_main_arg5 m c) _)

theorem rd10 (c : Dev nD) (t : Fin cfg0.N) (q : Fin 6) (h : Fin 20) (hq : t.val / 20 = q.val) (hh : t.val % 20 = h.val) (n : Fin 64) (p : Fin 160) :
    (iblk m c 10 t : Vec Ideal S1x1x64x160 .f32) (ix4 0 0 n p) = (m (c, main_arg10) : Vec Ideal S6x20x64x160 .f32) (ix4 q h n p) :=
  (iblk10 m c t q h hq hh n p).trans (congrFun (V_main_arg10 m c) _)

theorem coordH (T : Fin cfg0.N) (q : Fin 6) (h : Fin 20) (hq : T.val / 20 = q.val) (hh : T.val % 20 = h.val) : (grid0.coords T 1 : Fin 20) = h := Fin.ext (((coords_eq T).2).trans hh)

theorem w72B (c : Dev nD) (hf : ∀ (q : Fin 6) (h : Fin 20) (f : Fin 128 → Fin 256) (j : Fin 128), eA (m (c, main_arg6)) (m (c, main_arg7)) (m (c, main_arg8)) q h f j ≠ ⊤) (T : Fin cfg0.N) (q : Fin 6) (h : Fin 20) (hq : T.val / 20 = q.val) (hh : T.val % 20 = h.val) (n : Fin 64) (p : Fin 160) :
    w_72 (grid0.coords T) (iblk m c 0 T) (iblk m c 1 T) (iblk m c 2 T) (iblk m c 3 T) (iblk m c 4 T) (iblk m c 5 T) (iblk m c 10 T) (row1 (B6 m c q) (B7 m c) (B8 m c) (B9 m c q)) (row2 (B6 m c q) (B7 m c) (B8 m c) (B9 m c q)) (row3 (B6 m c q) (B7 m c) (B8 m c) (B9 m c q)) (row4 (B6 m c q) (B7 m c) (B8 m c) (B9 m c q)) (row5 (B6 m c q) (B7 m c) (B8 m c) (B9 m c q)) (ix2 n p) = (midA (m (c, main_arg0)) (m (c, main_arg1)) (m (c, main_arg3)) (m (c, main_arg4)) (m (c, main_arg6)) (m (c, main_arg7)) (m (c, main_arg8)) (m (c, main_arg9)) (m (c, main_arg10)) q h) n p := by
  rw [e1, s0, t0, coordH T q h hq hh]
  rw [show (row4 (B6 m c q) (B7 m c) (B8 m c) (B9 m c q)) (ix3 1 h 0) = _ from congrFun (rowB4_1 m c hf q h) 0]
  rw [rowB1_0 m c hf q h, rowB5_0 m c hf q h]
  simp only [rd0 m c T q h hq hh, rd1 m c T q h hq hh, rd2 m c T q h hq hh, rd3 m c T q h hq hh, rd4 m c T q h hq hh, rd5 m c T q h hq hh, rd10 m c T q h hq hh]
  rfl

theorem w75B (c : Dev nD) (hf : ∀ (q : Fin 6) (h : Fin 20) (f : Fin 128 → Fin 256) (j : Fin 128), eA (m (c, main_arg6)) (m (c, main_arg7)) (m (c, main_arg8)) q h f j ≠ ⊤) (T : Fin cfg0.N) (q : Fin 6) (h : Fin 20) (hq : T.val / 20 = q.val) (hh : T.val % 20 = h.val) (n : Fin 64) (p : Fin 160) :
    w_75 (grid0.coords T) (iblk m c 0 T) (iblk m c 1 T) (iblk m c 2 T) (iblk m c 3 T) (iblk m c 4 T) (iblk m c 5 T) (iblk m c 10 T) (row1 (B6 m c q) (B7 m c) (B8 m c) (B9 m c q)) (row2 (B6 m c q) (B7 m c) (B8 m c) (B9 m c q)) (row3 (B6 m c q) (B7 m c) (B8 m c) (B9 m c q)) (row4 (B6 m c q) (B7 m c) (B8 m c) (B9 m c q)) (row5 (B6 m c q) (B7 m c) (B8 m c) (B9 m c q)) (ix2 n p) = finA (m (c, main_arg0)) (m (c, main_arg1)) (m (c, main_arg3)) (m (c, main_arg4)) (m (c, main_arg6)) (m (c, main_arg7)) (m (c, main_arg8)) (m (c, main_arg9)) (m (c, main_arg10)) q h n p := by
  rw [s1]
  beta_reduce
  rw [w72B m c hf T q h hq hh, coordH T q h hq hh]
  rw [rowB5_1 m c hf q h, show row1 (B6 m c q) (B7 m c) (B8 m c) (B9 m c q) (ix3 1 h 127) = _ from congrFun (rowB1_1 m c hf q h) 127]
  simp only [rd0 m c T q h hq hh, rd1 m c T q h hq hh, rd2 m c T q h hq hh, rd3 m c T q h hq hh, rd4 m c T q h hq hh, rd5 m c T q h hq hh, rd10 m c T q h hq hh]
  rfl

theorem yLoB (c : Dev nD) (hf : ∀ (q : Fin 6) (h : Fin 20) (f : Fin 128 → Fin 256) (j : Fin 128), eA (m (c, main_arg6)) (m (c, main_arg7)) (m (c, main_arg8)) q h f j ≠ ⊤) (T : Fin cfg0.N) (q : Fin 6) (h : Fin 20) (hq : T.val / 20 = q.val) (hh : T.val % 20 = h.val) (s : Fin 4) (p : Fin 160) (t : Fin 128) :
    bodyY (grid0.coords T) (iblk m c 0 T) (iblk m c 1 T) (iblk m c 2 T) (iblk m c 3 T) (iblk m c 4 T) (iblk m c 5 T) (iblk m c 10 T) (row1 (B6 m c q) (B7 m c) (B8 m c) (B9 m c q)) (row2 (B6 m c q) (B7 m c) (B8 m c) (B9 m c q)) (row3 (B6 m c q) (B7 m c) (B8 m c) (B9 m c q)) (row4 (B6 m c q) (B7 m c) (B8 m c) (B9 m c q)) (row5 (B6 m c q) (B7 m c) (B8 m c) (B9 m c q)) (ix5 0 0 s p (lo t)) = yA (m (c, main_arg0)) (m (c, main_arg1)) (m (c, main_arg2)) (m (c, main_arg3)) (m (c, main_arg4)) (m (c, main_arg5)) (m (c, main_arg6)) (m (c, main_arg7)) (m (c, main_arg8)) (m (c, main_arg9)) (fun n p => (m (c, main_arg10) : Vec Ideal S6x20x64x160 .f32) (ix4 q h n p)) q h lo s p t := by
  rw [bodyYAt_0, coordH T q h hq hh]
  rw [rowB1_0 m c hf q h, rowB2_0 m c hf q h, rowB3_0 m c hf q h]
  simp only [rd0 m c T q h hq hh, rd1 m c T q h hq hh, rd2 m c T q h hq hh, rd3 m c T q h hq hh, rd4 m c T q h hq hh, rd5 m c T q h hq hh, rd10 m c T q h hq hh]
  rfl

theorem yHiB (c : Dev nD) (hf : ∀ (q : Fin 6) (h : Fin 20) (f : Fin 128 → Fin 256) (j : Fin 128), eA (m (c, main_arg6)) (m (c, main_arg7)) (m (c, main_arg8)) q h f j ≠ ⊤) (T : Fin cfg0.N) (q : Fin 6) (h : Fin 20) (hq : T.val / 20 = q.val) (hh : T.val % 20 = h.val) (s : Fin 4) (p : Fin 160) (t : Fin 128) :
    bodyY (grid0.coords T) (iblk m c 0 T) (iblk m c 1 T) (iblk m c 2 T) (iblk m c 3 T) (iblk m c 4 T) (iblk m c 5 T) (iblk m c 10 T) (row1 (B6 m c q) (B7 m c) (B8 m c) (B9 m c q)) (row2 (B6 m c q) (B7 m c) (B8 m c) (B9 m c q)) (row3 (B6 m c q) (B7 m c) (B8 m c) (B9 m c q)) (row4 (B6 m c q) (B7 m c) (B8 m c) (B9 m c q)) (row5 (B6 m c q) (B7 m c) (B8 m c) (B9 m c q)) (ix5 0 0 s p (hi t)) = yA (m (c, main_arg0)) (m (c, main_arg1)) (m (c, main_arg2)) (m (c, main_arg3)) (m (c, main_arg4)) (m (c, main_arg5)) (m (c, main_arg6)) (m (c, main_arg7)) (m (c, main_arg8)) (m (c, main_arg9)) (midA (m (c, main_arg0)) (m (c, main_arg1)) (m (c, main_arg3)) (m (c, main_arg4)) (m (c, main_arg6)) (m (c, main_arg7)) (m (c, main_arg8)) (m (c, main_arg9)) (m (c, main_arg10)) q h) q h hi s p t := by
  rw [bodyYAt_1, coordH T q h hq hh]
  rw [rowB1_1 m c hf q h, rowB2_1 m c hf q h, rowB3_1 m c hf q h]
  simp only [rd0 m c T q h hq hh, rd1 m c T q h hq hh, rd2 m c T q h hq hh, rd3 m c T q h hq hh, rd4 m c T q h hq hh, rd5 m c T q h hq hh, rd10 m c T q h hq hh]
  simp only [w72B m c hf T q h hq hh]
  rfl

/-- The point of a batch and a head. -/
def pt (q : Fin 6) (h : Fin 20) : Fin cfg0.N := ⟨20 * q.val + h.val, lt_of_lt_of_eq (by omega) (show (120 : Nat) = cfg0.N from N_0.symm)⟩
theorem pt_q (q : Fin 6) (h : Fin 20) : (pt q h).val / 20 = q.val := by show (20 * q.val + h.val) / 20 = q.val; omega
theorem pt_h (q : Fin 6) (h : Fin 20) : (pt q h).val % 20 = h.val := by show (20 * q.val + h.val) % 20 = h.val; omega

theorem G11At (c : Dev nD) (q : Fin 6) (h : Fin 20) (s : Fin 4) (p : Fin 160) (j : Fin 256) :
    (G11 m c : Vec Ideal S6x20x4x160x256 .bf16) (ix5 q h s p j) = (outsAt0 m c (pt q h).val (pt q h).isLt).1 (ix5 0 0 s p j) := by
  have hp : pt11Of (ix5 q h s p j) = (pt q h).val := by
    show 20 * (q.val / 1 - 0) + 1 * (h.val / 1 - 0) + 1 * (s.val / 4 - 0) + 1 * (p.val / 160 - 0) + 1 * (j.val / 256 - 0) = 20 * q.val + h.val
    omega
  have hl : loc11Of (ix5 q h s p j) = ix5 0 0 s p j := by
    funext a; apply Fin.ext
    match a with
    | ⟨0, _⟩ => exact Nat.mod_one _
    | ⟨1, _⟩ => exact Nat.mod_one _
    | ⟨2, _⟩ => exact Nat.mod_eq_of_lt s.isLt
    | ⟨3, _⟩ => exact Nat.mod_eq_of_lt p.isLt
    | ⟨4, _⟩ => exact Nat.mod_eq_of_lt j.isLt
  unfold G11
  rw [dif_pos (by rw [hp]; exact (pt q h).isLt), hl, outsAt0_sweep, fold0_congr m c _ _ _ _ hp]

theorem G12At (c : Dev nD) (q : Fin 6) (h : Fin 20) (n : Fin 64) (p : Fin 160) :
    (G12 m c : Vec Ideal S6x20x64x160 .f32) (ix4 q h n p) = (outsAt0 m c (pt q h).val (pt q h).isLt).2.1 (ix4 0 0 n p) := by
  have hp : pt12Of (ix4 q h n p) = (pt q h).val := by
    show 20 * (q.val / 1 - 0) + 1 * (h.val / 1 - 0) + 1 * (n.val / 64 - 0) + 1 * (p.val / 160 - 0) = 20 * q.val + h.val
    omega
  have hl : loc12Of (ix4 q h n p) = ix4 0 0 n p := by
    funext a; apply Fin.ext
    match a with
    | ⟨0, _⟩ => exact Nat.mod_one _
    | ⟨1, _⟩ => exact Nat.mod_one _
    | ⟨2, _⟩ => exact Nat.mod_eq_of_lt n.isLt
    | ⟨3, _⟩ => exact Nat.mod_eq_of_lt p.isLt
  unfold G12
  rw [dif_pos (by rw [hp]; exact (pt q h).isLt), hl, outsAt0_sweep, fold0_congr m c _ _ _ _ hp]

theorem kerLo (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) (s : Fin 4) (p : Fin 160) (t : Fin 128) :
    (G11 m c : Vec Ideal S6x20x4x160x256 .bf16) (ix5 q h s p (lo t)) = yA (m (c, main_arg0)) (m (c, main_arg1)) (m (c, main_arg2)) (m (c, main_arg3)) (m (c, main_arg4)) (m (c, main_arg5)) (m (c, main_arg6)) (m (c, main_arg7)) (m (c, main_arg8)) (m (c, main_arg9)) (fun n p => (m (c, main_arg10) : Vec Ideal S6x20x64x160 .f32) (ix4 q h n p)) q h lo s p t := by
  rw [G11At, outs m c _ (pt q h) q rfl (pt_q q h)]
  dsimp only
  rw [yLoB m c hf (pt q h) q h (pt_q q h) (pt_h q h) s p t]

theorem kerHi (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) (s : Fin 4) (p : Fin 160) (t : Fin 128) :
    (G11 m c : Vec Ideal S6x20x4x160x256 .bf16) (ix5 q h s p (hi t)) = yA (m (c, main_arg0)) (m (c, main_arg1)) (m (c, main_arg2)) (m (c, main_arg3)) (m (c, main_arg4)) (m (c, main_arg5)) (m (c, main_arg6)) (m (c, main_arg7)) (m (c, main_arg8)) (m (c, main_arg9)) (midA (m (c, main_arg0)) (m (c, main_arg1)) (m (c, main_arg3)) (m (c, main_arg4)) (m (c, main_arg6)) (m (c, main_arg7)) (m (c, main_arg8)) (m (c, main_arg9)) (m (c, main_arg10)) q h) q h hi s p t := by
  rw [G11At, outs m c _ (pt q h) q rfl (pt_q q h)]
  dsimp only
  rw [yHiB m c hf (pt q h) q h (pt_q q h) (pt_h q h) s p t]

theorem kerFin (c : Dev nD) (hf : ∀ (q : Fin 6) (h : Fin 20) (f : Fin 128 → Fin 256) (j : Fin 128), eA (m (c, main_arg6)) (m (c, main_arg7)) (m (c, main_arg8)) q h f j ≠ ⊤) (q : Fin 6) (h : Fin 20) (n : Fin 64) (p : Fin 160) :
    (G12 m c : Vec Ideal S6x20x64x160 .f32) (ix4 q h n p) = finA (m (c, main_arg0)) (m (c, main_arg1)) (m (c, main_arg3)) (m (c, main_arg4)) (m (c, main_arg6)) (m (c, main_arg7)) (m (c, main_arg8)) (m (c, main_arg9)) (m (c, main_arg10)) q h n p := by
  rw [G12At, outs m c _ (pt q h) q rfl (pt_q q h)]
  exact (bodySAt _ _ _ _ _ _ _ _ _ _ _ _ _ n p).trans (w75B m c hf (pt q h) q h (pt_q q h) (pt_h q h) n p)

end Cert.KernelIdeal.Scan
-- ==== Proof.Scan.Red.lean ====
module

public import proofs.«01_k».proof.Proof.Gen.ReferenceIdeal.Read
public import proofs.«01_k».proof.Proof.Scan.Spec
public import Idealize.ShloMosaic.Lib.Pointwise

@[expose] public section
set_option maxRecDepth 16384

noncomputable section
open Idealize.ShloMosaic Idealize.ShloMosaic.TcCoe
namespace Cert.ReferenceIdeal.Scan
open Cert.Scan Cert.ReferenceIdeal Cert.ReferenceIdeal.Read

/-- A sum over axis 2 of a rank-6 array, read at an index. -/
theorem red6 {n0 n1 n2 n3 n4 n5 : Nat} (hr : (⟨6, ![n0, n1, n2, n3, n4, n5]⟩ : Shape).ReducesTo [2] (⟨5, ![n0, n1, n3, n4, n5]⟩ : Shape))
    (v : (⟨6, ![n0, n1, n2, n3, n4, n5]⟩ : Shape).Idx → EReal) (init : EReal) (a : Fin n0) (b : Fin n1) (c : Fin n3) (d : Fin n4) (e : Fin n5) :
    Ideal.hostReduceAdd hr v init (ix5 a b c d e) = init + ∑ k : Fin n2, v (ix6 a b k c d e) := by
  refine congrArg (init + ·) (Finset.sum_filter_eq_sum_of_fiber _ (fun k : Fin n2 => ix6 a b k c d e) (fun _ _ e => congrFun e 2) (fun i => ?_) v)
  constructor
  · intro e'
    refine ⟨i 2, ?_⟩
    funext x; apply Fin.ext
    match x with
    | ⟨0, _⟩ => exact (congrArg Fin.val (congrFun e' 0)).symm
    | ⟨1, _⟩ => exact (congrArg Fin.val (congrFun e' 1)).symm
    | ⟨2, _⟩ => rfl
    | ⟨3, _⟩ => exact (congrArg Fin.val (congrFun e' 2)).symm
    | ⟨4, _⟩ => exact (congrArg Fin.val (congrFun e' 3)).symm
    | ⟨5, _⟩ => exact (congrArg Fin.val (congrFun e' 4)).symm
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

end Cert.ReferenceIdeal.Scan
-- ==== Proof.Scan.B0.lean ====
module

public import proofs.«01_k».proof.Proof.Gen.ReferenceIdeal.Read
public import proofs.«01_k».proof.Proof.Scan.Red
public import Idealize.ShloMosaic.Lib.Pointwise

@[expose] public section
set_option maxRecDepth 16384

noncomputable section
open Idealize.ShloMosaic Idealize.ShloMosaic.TcCoe
namespace Cert.ReferenceIdeal.Scan
open Cert.Scan Cert.ReferenceIdeal Cert.ReferenceIdeal.Read

theorem z2 : (id (constant (F := Ideal) S_ FTy.f32 0x00000000#32) ix0 : EReal) = 0 := by
  show (constant (F := Ideal) S_ FTy.f32 0x00000000#32 ix0 : EReal) = 0
  pointwise

theorem z2' : (constant (F := Ideal) S_ FTy.f32 0x00000000#32 ix0 : EReal) = 0 := by
  pointwise

set_option maxHeartbeats 2000000 in
set_option pp.deepTerms true in
set_option pp.deepTerms.threshold 1000 in
theorem r45  (x6 : (⟨S6x256x20, .f32⟩ : BufTy).Contents (Elt Ideal)) (x7 x8 : (⟨S20, .f32⟩ : BufTy).Contents (Elt Ideal)) (q : Fin 6) (h : Fin 20) (t : Fin 128) : val_main_v45 (F := Ideal) x6 x7 x8 (ix3 q h t) = Lk (fun j => val_main_v16 (F := Ideal) x6 x7 x8 (ix3 q h (lo j))) t := by
  pointwise [val_main_call2_v0, val_main_call2_v1, val_main_call2_v2, val_main_call2_v3, val_main_cst_2, val_main_cst_3, val_main_v23, val_main_v24, val_main_v25, val_main_v26, val_main_v27, val_main_v28, val_main_v29, val_main_v42, val_main_v43, val_main_v44, val_main_v45]
  refine Finset.sum_congr rfl fun x _ => ?_
  rw [select_le _ _ x.isLt t.isLt]
  first | exact if_congr Iff.rfl rfl z2 | exact if_congr Iff.rfl rfl z2'

set_option maxHeartbeats 2000000 in
set_option pp.deepTerms true in
set_option pp.deepTerms.threshold 1000 in
theorem r142  (x6 : (⟨S6x256x20, .f32⟩ : BufTy).Contents (Elt Ideal)) (x7 x8 : (⟨S20, .f32⟩ : BufTy).Contents (Elt Ideal)) (q : Fin 6) (h : Fin 20) (t : Fin 128) : val_main_v142 (F := Ideal) x6 x7 x8 (ix3 q h t) = Lk (fun j => val_main_v16 (F := Ideal) x6 x7 x8 (ix3 q h (hi j))) t := by
  pointwise [val_main_call5_v0, val_main_call5_v1, val_main_call5_v2, val_main_call5_v3, val_main_cst_7, val_main_cst_8, val_main_v139, val_main_v140, val_main_v141, val_main_v142, val_main_v23, val_main_v24, val_main_v25, val_main_v26, val_main_v27, val_main_v28, val_main_v29]
  refine Finset.sum_congr rfl fun x _ => ?_
  rw [select_le _ _ x.isLt t.isLt]
  first | exact if_congr Iff.rfl rfl z2 | exact if_congr Iff.rfl rfl z2'

end Cert.ReferenceIdeal.Scan
-- ==== Proof.Scan.B1.lean ====
module

public import proofs.«01_k».proof.Proof.Gen.ReferenceIdeal.Read
public import proofs.«01_k».proof.Proof.Scan.Red
public import Idealize.ShloMosaic.Lib.Pointwise

@[expose] public section
set_option maxRecDepth 16384

noncomputable section
open Idealize.ShloMosaic Idealize.ShloMosaic.TcCoe
namespace Cert.ReferenceIdeal.Scan
open Cert.Scan Cert.ReferenceIdeal Cert.ReferenceIdeal.Read

theorem z0 : (id (constant (F := Ideal) S_ FTy.f32 0x00000000#32) ix0 : EReal) = 0 := by
  show (constant (F := Ideal) S_ FTy.f32 0x00000000#32 ix0 : EReal) = 0
  pointwise

theorem z0' : (constant (F := Ideal) S_ FTy.f32 0x00000000#32 ix0 : EReal) = 0 := by
  pointwise

set_option maxHeartbeats 2000000 in
set_option pp.deepTerms true in
set_option pp.deepTerms.threshold 1000 in
theorem r92  (x3 x4 x5 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 r2 : (⟨S6x20x4x64x256, .bf16⟩ : BufTy).Contents (Elt Ideal)) (q : Fin 6) (h : Fin 20) (s : Fin 4) (p : Fin 160) (t : Fin 128) : val_main_v92 (F := Ideal) x3 x4 x5 x6 x7 x8 x9 x10 r0 r1 r2 (ix5 q h s p t) = yc (fun r p j => r0 (ix5 q h r p (lo j))) (fun r n j => r1 (ix5 q h r n (lo j))) (fun r n j => r2 (ix5 q h r n (lo j))) (fun j => x3 (ix3 q h (lo j))) (fun j => x4 (ix3 q h (lo j))) (fun j => x5 (ix3 q h (lo j))) (fun j => val_main_v45 (F := Ideal) x6 x7 x8 (ix3 q h j)) (fun j => val_main_v18 (F := Ideal) x6 x7 x9 (ix3 q h (lo j))) (gkf (fun j => val_main_v18 (F := Ideal) x6 x7 x9 (ix3 q h (lo j))) (fun j => val_main_v22 (F := Ideal) x6 x7 x9 (ix3 q h (lo j)))) (fun n p => x10 (ix4 q h n p)) s p t := by
  pointwise [red6, val_main_call1_v0, val_main_call1_v1, val_main_call3_v0, val_main_call3_v1, val_main_call3_v2, val_main_cst_4, val_main_cst_5, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92]
  refine congrArg₂ (· + ·) ?_ ?_
  · refine Finset.sum_congr rfl fun r _ => ?_
    refine (congrArg₂ (· + ·) ?_ ?_).trans (Fin.sum_univ_castSucc (n := 127) _).symm
    · refine Finset.sum_congr rfl fun x _ => ?_
      refine yterm x.val t.val (by omega) t.isLt _ _ _ _ _ _ _ _ _ _ _ _ _ _ (Finset.sum_congr rfl fun n _ => mul_comm _ _) ?_ (fun _ => gkf_lt _ _ _ x.isLt) (fun hx => ?_)
      · first | exact z0 | exact z0'
      · have e : t = ⟨x.val, by omega⟩ := Fin.ext hx.symm
        rw [e]
        exact ⟨rfl, rfl, rfl⟩
    · refine (Fin.sum_univ_one _).trans ?_
      refine yterm 127 t.val (by omega) t.isLt _ _ _ _ _ _ _ _ _ _ _ _ _ _ (Finset.sum_congr rfl fun n _ => mul_comm _ _) ?_ (fun hx => absurd t.isLt (by omega)) (fun hx => ?_)
      · first | exact z0 | exact z0'
      · have e : t = ⟨127, by omega⟩ := Fin.ext hx.symm
        rw [e]
        exact ⟨rfl, rfl, rfl⟩
  · exact congrArg (_ * ·) (Finset.sum_congr rfl fun n _ => mul_comm _ _)

end Cert.ReferenceIdeal.Scan
-- ==== Proof.Scan.B2.lean ====
module

public import proofs.«01_k».proof.Proof.Gen.ReferenceIdeal.Read
public import proofs.«01_k».proof.Proof.Scan.Red
public import Idealize.ShloMosaic.Lib.Pointwise

@[expose] public section
set_option maxRecDepth 16384

noncomputable section
open Idealize.ShloMosaic Idealize.ShloMosaic.TcCoe
namespace Cert.ReferenceIdeal.Scan
open Cert.Scan Cert.ReferenceIdeal Cert.ReferenceIdeal.Read

set_option maxHeartbeats 2000000 in
set_option pp.deepTerms true in
set_option pp.deepTerms.threshold 1000 in
theorem r110  (x3 x4 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 : (⟨S6x20x4x64x256, .bf16⟩ : BufTy).Contents (Elt Ideal)) (q : Fin 6) (h : Fin 20) (n : Fin 64) (p : Fin 160) : val_main_v110 (F := Ideal) x3 x4 x6 x7 x8 x9 x10 r0 r1 (ix4 q h n p) = Ideal.exp ((fun j => val_main_v45 (F := Ideal) x6 x7 x8 (ix3 q h j)) 127) * x10 (ix4 q h n p) + dS (fun r p j => r0 (ix5 q h r p (lo j))) (fun r n j => r1 (ix5 q h r n (lo j))) (fun j => x3 (ix3 q h (lo j))) (fun j => x4 (ix3 q h (lo j))) (fun j => Ideal.exp ((fun j => val_main_v45 (F := Ideal) x6 x7 x8 (ix3 q h j)) 127 - (fun j => val_main_v45 (F := Ideal) x6 x7 x8 (ix3 q h j)) j) * (gkf (fun j => val_main_v18 (F := Ideal) x6 x7 x9 (ix3 q h (lo j))) (fun j => val_main_v22 (F := Ideal) x6 x7 x9 (ix3 q h (lo j)))) j) n p := by
  pointwise [val_main_call1_v0, val_main_call1_v1, val_main_call3_v0, val_main_call3_v1, val_main_call3_v2, val_main_cst_4, val_main_cst_6, val_main_v100, val_main_v101, val_main_v102, val_main_v103, val_main_v104, val_main_v105, val_main_v106, val_main_v107, val_main_v108, val_main_v109, val_main_v110, val_main_v23, val_main_v24, val_main_v25, val_main_v26, val_main_v27, val_main_v28, val_main_v29, val_main_v30, val_main_v31, val_main_v32, val_main_v33, val_main_v34, val_main_v36, val_main_v37, val_main_v39, val_main_v40, val_main_v41, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v93, val_main_v94, val_main_v95, val_main_v96, val_main_v97, val_main_v98, val_main_v99]
  refine congrArg₂ (· + ·) rfl ?_
  refine Finset.sum_congr rfl fun r _ => ?_
  refine (congrArg₂ (· + ·) ?_ ?_).trans (Fin.sum_univ_castSucc (n := 127) _).symm
  · refine Finset.sum_congr rfl fun x _ => ?_
    exact sterm x.val (by omega) _ _ _ _ _ _ _ _ _ (fun _ => gkf_lt _ _ _ x.isLt) (fun hx => absurd x.isLt (by omega))
  · refine (Fin.sum_univ_one _).trans ?_
    exact sterm 127 (by omega) _ _ _ _ _ _ _ _ _ (fun hx => absurd hx (by omega)) (fun _ => gkf_127 _ _)

set_option maxHeartbeats 2000000 in
set_option pp.deepTerms true in
set_option pp.deepTerms.threshold 1000 in
theorem r123  (x3 x4 : (⟨S6x20x256, .f32⟩ : BufTy).Contents (Elt Ideal)) (r0 : (⟨S6x20x4x160x256, .bf16⟩ : BufTy).Contents (Elt Ideal)) (r1 : (⟨S6x20x4x64x256, .bf16⟩ : BufTy).Contents (Elt Ideal)) (q : Fin 6) (h : Fin 20) (n : Fin 64) (p : Fin 160) : val_main_v123 (F := Ideal) x3 x4 r0 r1 (ix4 q h n p) = tap (fun r p j => r0 (ix5 q h r p (lo j))) (fun r n j => r1 (ix5 q h r n (lo j))) (fun j => x3 (ix3 q h (lo j))) (fun j => x4 (ix3 q h (lo j))) n p := by
  pointwise [val_main_v111, val_main_v112, val_main_v113, val_main_v114, val_main_v115, val_main_v116, val_main_v117, val_main_v118, val_main_v119, val_main_v120, val_main_v121, val_main_v122, val_main_v123, val_main_v33, val_main_v34, val_main_v36, val_main_v37]
  rfl

set_option maxHeartbeats 2000000 in
set_option pp.deepTerms true in
set_option pp.deepTerms.threshold 1000 in
theorem r129  (x3 x4 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 : (⟨S6x20x4x64x256, .bf16⟩ : BufTy).Contents (Elt Ideal)) (q : Fin 6) (h : Fin 20) (n : Fin 64) (p : Fin 160) : val_main_v129 (F := Ideal) x3 x4 x6 x7 x8 x9 x10 r0 r1 (ix4 q h n p) = val_main_v110 (F := Ideal) x3 x4 x6 x7 x8 x9 x10 r0 r1 (ix4 q h n p) + val_main_v22 (F := Ideal) x6 x7 x9 (ix3 q h (hi 0)) * val_main_v123 (F := Ideal) x3 x4 r0 r1 (ix4 q h n p) := by
  pointwise [val_main_v124, val_main_v125, val_main_v126, val_main_v127, val_main_v128, val_main_v129]
  rfl

end Cert.ReferenceIdeal.Scan
-- ==== Proof.Scan.B3.lean ====
module

public import proofs.«01_k».proof.Proof.Gen.ReferenceIdeal.Read
public import proofs.«01_k».proof.Proof.Scan.Red
public import Idealize.ShloMosaic.Lib.Pointwise

@[expose] public section
set_option maxRecDepth 16384

noncomputable section
open Idealize.ShloMosaic Idealize.ShloMosaic.TcCoe
namespace Cert.ReferenceIdeal.Scan
open Cert.Scan Cert.ReferenceIdeal Cert.ReferenceIdeal.Read

theorem z1 : (id (constant (F := Ideal) S_ FTy.f32 0x00000000#32) ix0 : EReal) = 0 := by
  show (constant (F := Ideal) S_ FTy.f32 0x00000000#32 ix0 : EReal) = 0
  pointwise

theorem z1' : (constant (F := Ideal) S_ FTy.f32 0x00000000#32 ix0 : EReal) = 0 := by
  pointwise

set_option maxHeartbeats 2000000 in
set_option pp.deepTerms true in
set_option pp.deepTerms.threshold 1000 in
theorem r189  (x3 x4 x5 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 r2 : (⟨S6x20x4x64x256, .bf16⟩ : BufTy).Contents (Elt Ideal)) (q : Fin 6) (h : Fin 20) (s : Fin 4) (p : Fin 160) (t : Fin 128) : val_main_v189 (F := Ideal) x3 x4 x5 x6 x7 x8 x9 x10 r0 r1 r2 (ix5 q h s p t) = yc (fun r p j => r0 (ix5 q h r p (hi j))) (fun r n j => r1 (ix5 q h r n (hi j))) (fun r n j => r2 (ix5 q h r n (hi j))) (fun j => x3 (ix3 q h (hi j))) (fun j => x4 (ix3 q h (hi j))) (fun j => x5 (ix3 q h (hi j))) (fun j => val_main_v142 (F := Ideal) x6 x7 x8 (ix3 q h j)) (fun j => val_main_v18 (F := Ideal) x6 x7 x9 (ix3 q h (hi j))) (gkf (fun j => val_main_v18 (F := Ideal) x6 x7 x9 (ix3 q h (hi j))) (fun j => val_main_v22 (F := Ideal) x6 x7 x9 (ix3 q h (hi j)))) (fun n p => val_main_v129 (F := Ideal) x3 x4 x6 x7 x8 x9 x10 r0 r1 (ix4 q h n p)) s p t := by
  pointwise [red6, val_main_call4_v0, val_main_call4_v1, val_main_call6_v0, val_main_call6_v1, val_main_call6_v2, val_main_cst_10, val_main_cst_9, val_main_v130, val_main_v131, val_main_v132, val_main_v133, val_main_v134, val_main_v135, val_main_v136, val_main_v137, val_main_v138, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v23, val_main_v24, val_main_v25, val_main_v26, val_main_v27, val_main_v28, val_main_v29, val_main_v30, val_main_v31, val_main_v32]
  refine congrArg₂ (· + ·) ?_ ?_
  · refine Finset.sum_congr rfl fun r _ => ?_
    refine (congrArg₂ (· + ·) ?_ ?_).trans (Fin.sum_univ_castSucc (n := 127) _).symm
    · refine Finset.sum_congr rfl fun x _ => ?_
      refine yterm x.val t.val (by omega) t.isLt _ _ _ _ _ _ _ _ _ _ _ _ _ _ (Finset.sum_congr rfl fun n _ => mul_comm _ _) ?_ (fun _ => gkf_lt _ _ _ x.isLt) (fun hx => ?_)
      · first | exact z1 | exact z1'
      · have e : t = ⟨x.val, by omega⟩ := Fin.ext hx.symm
        rw [e]
        exact ⟨rfl, rfl, rfl⟩
    · refine (Fin.sum_univ_one _).trans ?_
      refine yterm 127 t.val (by omega) t.isLt _ _ _ _ _ _ _ _ _ _ _ _ _ _ (Finset.sum_congr rfl fun n _ => mul_comm _ _) ?_ (fun hx => absurd t.isLt (by omega)) (fun hx => ?_)
      · first | exact z1 | exact z1'
      · have e : t = ⟨127, by omega⟩ := Fin.ext hx.symm
        rw [e]
        exact ⟨rfl, rfl, rfl⟩
  · exact congrArg (_ * ·) (Finset.sum_congr rfl fun n _ => mul_comm _ _)

end Cert.ReferenceIdeal.Scan
-- ==== Proof.Scan.B4.lean ====
module

public import proofs.«01_k».proof.Proof.Gen.ReferenceIdeal.Read
public import proofs.«01_k».proof.Proof.Scan.Red
public import Idealize.ShloMosaic.Lib.Pointwise

@[expose] public section
set_option maxRecDepth 16384

noncomputable section
open Idealize.ShloMosaic Idealize.ShloMosaic.TcCoe
namespace Cert.ReferenceIdeal.Scan
open Cert.Scan Cert.ReferenceIdeal Cert.ReferenceIdeal.Read

set_option maxHeartbeats 2000000 in
set_option pp.deepTerms true in
set_option pp.deepTerms.threshold 1000 in
theorem r207  (x3 x4 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 : (⟨S6x20x4x64x256, .bf16⟩ : BufTy).Contents (Elt Ideal)) (q : Fin 6) (h : Fin 20) (n : Fin 64) (p : Fin 160) : val_main_v207 (F := Ideal) x3 x4 x6 x7 x8 x9 x10 r0 r1 (ix4 q h n p) = Ideal.exp ((fun j => val_main_v142 (F := Ideal) x6 x7 x8 (ix3 q h j)) 127) * val_main_v129 (F := Ideal) x3 x4 x6 x7 x8 x9 x10 r0 r1 (ix4 q h n p) + dS (fun r p j => r0 (ix5 q h r p (hi j))) (fun r n j => r1 (ix5 q h r n (hi j))) (fun j => x3 (ix3 q h (hi j))) (fun j => x4 (ix3 q h (hi j))) (fun j => Ideal.exp ((fun j => val_main_v142 (F := Ideal) x6 x7 x8 (ix3 q h j)) 127 - (fun j => val_main_v142 (F := Ideal) x6 x7 x8 (ix3 q h j)) j) * (gkf (fun j => val_main_v18 (F := Ideal) x6 x7 x9 (ix3 q h (hi j))) (fun j => val_main_v22 (F := Ideal) x6 x7 x9 (ix3 q h (hi j)))) j) n p := by
  pointwise [val_main_call4_v0, val_main_call4_v1, val_main_call6_v0, val_main_call6_v1, val_main_call6_v2, val_main_cst_11, val_main_cst_9, val_main_v130, val_main_v131, val_main_v133, val_main_v134, val_main_v136, val_main_v137, val_main_v138, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v23, val_main_v24, val_main_v25, val_main_v26, val_main_v27, val_main_v28, val_main_v29, val_main_v30, val_main_v31, val_main_v32]
  refine congrArg₂ (· + ·) rfl ?_
  refine Finset.sum_congr rfl fun r _ => ?_
  refine (congrArg₂ (· + ·) ?_ ?_).trans (Fin.sum_univ_castSucc (n := 127) _).symm
  · refine Finset.sum_congr rfl fun x _ => ?_
    exact sterm x.val (by omega) _ _ _ _ _ _ _ _ _ (fun _ => gkf_lt _ _ _ x.isLt) (fun hx => absurd x.isLt (by omega))
  · refine (Fin.sum_univ_one _).trans ?_
    exact sterm 127 (by omega) _ _ _ _ _ _ _ _ _ (fun hx => absurd hx (by omega)) (fun _ => gkf_127 _ _)

set_option maxHeartbeats 2000000 in
set_option pp.deepTerms true in
set_option pp.deepTerms.threshold 1000 in
theorem r208lo  (x3 x4 x5 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 r2 : (⟨S6x20x4x64x256, .bf16⟩ : BufTy).Contents (Elt Ideal)) (q : Fin 6) (h : Fin 20) (s : Fin 4) (p : Fin 160) (t : Fin 128) : val_main_v208 (F := Ideal) x3 x4 x5 x6 x7 x8 x9 x10 r0 r1 r2 (ix5 q h s p (lo t)) = val_main_v92 (F := Ideal) x3 x4 x5 x6 x7 x8 x9 x10 r0 r1 r2 (ix5 q h s p t) := by
  pointwise [val_main_v208]
  rw [dif_pos (show (lo t).val < 128 from t.isLt)]
  rfl

set_option maxHeartbeats 2000000 in
set_option pp.deepTerms true in
set_option pp.deepTerms.threshold 1000 in
theorem r208hi  (x3 x4 x5 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 r2 : (⟨S6x20x4x64x256, .bf16⟩ : BufTy).Contents (Elt Ideal)) (q : Fin 6) (h : Fin 20) (s : Fin 4) (p : Fin 160) (t : Fin 128) : val_main_v208 (F := Ideal) x3 x4 x5 x6 x7 x8 x9 x10 r0 r1 r2 (ix5 q h s p (hi t)) = val_main_v189 (F := Ideal) x3 x4 x5 x6 x7 x8 x9 x10 r0 r1 r2 (ix5 q h s p t) := by
  pointwise [val_main_v208]
  rw [dif_neg (show ¬ (hi t).val < 128 from by show ¬ 128 + t.val < 128; omega)]
  exact congrArg (fun k => val_main_v189 (F := Ideal) x3 x4 x5 x6 x7 x8 x9 x10 r0 r1 r2 (ix5 q h s p k)) (Fin.ext (by show 128 + t.val - 128 = t.val; omega))

end Cert.ReferenceIdeal.Scan
-- ==== Proof.Scan.B5.lean ====
module

public import proofs.«01_k».proof.Proof.Gen.ReferenceIdeal.Read
public import proofs.«01_k».proof.Proof.Scan.Red
public import Idealize.ShloMosaic.Lib.Pointwise

@[expose] public section
set_option maxRecDepth 16384

noncomputable section
open Idealize.ShloMosaic Idealize.ShloMosaic.TcCoe
namespace Cert.ReferenceIdeal.Scan
open Cert.Scan Cert.ReferenceIdeal Cert.ReferenceIdeal.Read

set_option maxHeartbeats 2000000 in
set_option pp.deepTerms true in
set_option pp.deepTerms.threshold 1000 in
theorem r16  (x6 : (⟨S6x256x20, .f32⟩ : BufTy).Contents (Elt Ideal)) (x7 x8 : (⟨S20, .f32⟩ : BufTy).Contents (Elt Ideal)) (q : Fin 6) (h : Fin 20) (t : Fin 256) : val_main_v16 (F := Ideal) x6 x7 x8 (ix3 q h t) = ell (x6 (ix3 q t h) + x7 (ix1 h)) (x8 (ix1 h)) := by
  pointwise [val_main_call0_cst, val_main_call0_v0, val_main_call0_v1, val_main_call0_v10, val_main_call0_v11, val_main_call0_v2, val_main_call0_v3, val_main_call0_v4, val_main_call0_v5, val_main_call0_v6, val_main_call0_v7, val_main_call0_v8, val_main_call0_v9, val_main_v1, val_main_v11, val_main_v12, val_main_v13, val_main_v14, val_main_v15, val_main_v16, val_main_v2, val_main_v3, val_main_v4]
  rfl

set_option maxHeartbeats 2000000 in
set_option pp.deepTerms true in
set_option pp.deepTerms.threshold 1000 in
theorem r18  (x6 : (⟨S6x256x20, .f32⟩ : BufTy).Contents (Elt Ideal)) (x7 : (⟨S20, .f32⟩ : BufTy).Contents (Elt Ideal)) (x9 : (⟨S6x256x20, .f32⟩ : BufTy).Contents (Elt Ideal)) (q : Fin 6) (h : Fin 20) (t : Fin 256) : val_main_v18 (F := Ideal) x6 x7 x9 (ix3 q h t) = gm (x6 (ix3 q t h) + x7 (ix1 h)) (x9 (ix3 q t h)) := by
  pointwise [val_main_call0_cst, val_main_call0_v0, val_main_call0_v1, val_main_call0_v10, val_main_call0_v11, val_main_call0_v2, val_main_call0_v3, val_main_call0_v4, val_main_call0_v5, val_main_call0_v6, val_main_call0_v7, val_main_call0_v8, val_main_call0_v9, val_main_cst, val_main_cst_0, val_main_v1, val_main_v10, val_main_v17, val_main_v18, val_main_v2, val_main_v3, val_main_v4, val_main_v5, val_main_v6, val_main_v7, val_main_v8, val_main_v9]
  rfl

set_option maxHeartbeats 2000000 in
set_option pp.deepTerms true in
set_option pp.deepTerms.threshold 1000 in
theorem r22  (x6 : (⟨S6x256x20, .f32⟩ : BufTy).Contents (Elt Ideal)) (x7 : (⟨S20, .f32⟩ : BufTy).Contents (Elt Ideal)) (x9 : (⟨S6x256x20, .f32⟩ : BufTy).Contents (Elt Ideal)) (q : Fin 6) (h : Fin 20) (t : Fin 256) : val_main_v22 (F := Ideal) x6 x7 x9 (ix3 q h t) = kp (x6 (ix3 q t h) + x7 (ix1 h)) (x9 (ix3 q t h)) := by
  pointwise [val_main_call0_cst, val_main_call0_v0, val_main_call0_v1, val_main_call0_v10, val_main_call0_v11, val_main_call0_v2, val_main_call0_v3, val_main_call0_v4, val_main_call0_v5, val_main_call0_v6, val_main_call0_v7, val_main_call0_v8, val_main_call0_v9, val_main_cst, val_main_cst_0, val_main_cst_1, val_main_v1, val_main_v10, val_main_v19, val_main_v2, val_main_v20, val_main_v21, val_main_v22, val_main_v3, val_main_v4, val_main_v5, val_main_v6, val_main_v7, val_main_v8, val_main_v9]
  rfl

end Cert.ReferenceIdeal.Scan
-- ==== Proof.Scan.RefOut.lean ====
module

public import proofs.«01_k».proof.Proof.Scan.Goal
public import proofs.«01_k».proof.Proof.Scan.B0
public import proofs.«01_k».proof.Proof.Scan.B1
public import proofs.«01_k».proof.Proof.Scan.B2
public import proofs.«01_k».proof.Proof.Scan.B3
public import proofs.«01_k».proof.Proof.Scan.B4
public import proofs.«01_k».proof.Proof.Scan.B5

@[expose] public section
set_option maxRecDepth 16384

noncomputable section
open Idealize.ShloMosaic Idealize.ShloMosaic.TcCoe
namespace Cert.ReferenceIdeal.Scan
open Cert.Scan Cert.ReferenceIdeal Cert.ReferenceIdeal.Read

theorem Llo (x6 : (⟨S6x256x20, .f32⟩ : BufTy).Contents (Elt Ideal)) (x7 x8 : (⟨S20, .f32⟩ : BufTy).Contents (Elt Ideal)) (q : Fin 6) (h : Fin 20) (t : Fin 128) :
    val_main_v45 (F := Ideal) x6 x7 x8 (ix3 q h t) = Lk (eA x6 x7 x8 q h lo) t := by
  rw [r45]
  exact congrArg (fun e => Lk e t) (funext fun j => r16 x6 x7 x8 q h (lo j))

theorem Lhi (x6 : (⟨S6x256x20, .f32⟩ : BufTy).Contents (Elt Ideal)) (x7 x8 : (⟨S20, .f32⟩ : BufTy).Contents (Elt Ideal)) (q : Fin 6) (h : Fin 20) (t : Fin 128) :
    val_main_v142 (F := Ideal) x6 x7 x8 (ix3 q h t) = Lk (eA x6 x7 x8 q h hi) t := by
  rw [r142]
  exact congrArg (fun e => Lk e t) (funext fun j => r16 x6 x7 x8 q h (hi j))

theorem refMid (x3 x4 x5 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 r2 : (⟨S6x20x4x64x256, .bf16⟩ : BufTy).Contents (Elt Ideal)) (q : Fin 6) (h : Fin 20) (n : Fin 64) (p : Fin 160) :
    val_main_v129 (F := Ideal) x3 x4 x6 x7 x8 x9 x10 r0 r1 (ix4 q h n p) = midA r0 r1 x3 x4 x6 x7 x8 x9 x10 q h n p := by
  rw [r129, r110, r123]
  simp only [Llo, r18, r22]
  rfl

theorem refFin (x3 x4 x5 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 r2 : (⟨S6x20x4x64x256, .bf16⟩ : BufTy).Contents (Elt Ideal)) (q : Fin 6) (h : Fin 20) (n : Fin 64) (p : Fin 160) :
    val_main_v207 (F := Ideal) x3 x4 x6 x7 x8 x9 x10 r0 r1 (ix4 q h n p) = finA r0 r1 x3 x4 x6 x7 x8 x9 x10 q h n p := by
  rw [r207, refMid x3 x4 x5 x6 x7 x8 x9 x10 r0 r1 r2]
  simp only [Lhi, r18, r22]
  rfl

theorem refLo (x3 x4 x5 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 r2 : (⟨S6x20x4x64x256, .bf16⟩ : BufTy).Contents (Elt Ideal)) (q : Fin 6) (h : Fin 20) (s : Fin 4) (p : Fin 160) (t : Fin 128) :
    val_main_v208 (F := Ideal) x3 x4 x5 x6 x7 x8 x9 x10 r0 r1 r2 (ix5 q h s p (lo t))
      = yA r0 r1 r2 x3 x4 x5 x6 x7 x8 x9 (fun n p => x10 (ix4 q h n p)) q h lo s p t := by
  rw [r208lo, r92]
  simp only [Llo, r18, r22]
  rfl

theorem refHi (x3 x4 x5 : (⟨S6x20x256, .f32⟩ : BufTy).Contents (Elt Ideal)) (x6 : (⟨S6x256x20, .f32⟩ : BufTy).Contents (Elt Ideal)) (x7 x8 : (⟨S20, .f32⟩ : BufTy).Contents (Elt Ideal)) (x9 : (⟨S6x256x20, .f32⟩ : BufTy).Contents (Elt Ideal)) (x10 : (⟨S6x20x64x160, .f32⟩ : BufTy).Contents (Elt Ideal)) (r0 : (⟨S6x20x4x160x256, .bf16⟩ : BufTy).Contents (Elt Ideal)) (r1 r2 : (⟨S6x20x4x64x256, .bf16⟩ : BufTy).Contents (Elt Ideal)) (q : Fin 6) (h : Fin 20) (s : Fin 4) (p : Fin 160) (t : Fin 128) :
    val_main_v208 (F := Ideal) x3 x4 x5 x6 x7 x8 x9 x10 r0 r1 r2 (ix5 q h s p (hi t))
      = yA r0 r1 r2 x3 x4 x5 x6 x7 x8 x9 (midA r0 r1 x3 x4 x6 x7 x8 x9 x10 q h) q h hi s p t := by
  rw [r208hi, r189]
  simp only [Lhi, r18, r22, refMid x3 x4 x5 x6 x7 x8 x9 x10 r0 r1 r2]
  rfl

end Cert.ReferenceIdeal.Scan
-- ==== Proof.Scan.Meet.lean ====
module

public import proofs.«01_k».proof.Proof.Scan.Out
public import proofs.«01_k».proof.Proof.Scan.RefOut

@[expose] public section
set_option maxRecDepth 16384

noncomputable section
open Idealize.ShloMosaic Idealize.ShloMosaic.TcCoe
namespace Cert.KernelIdeal.Scan
open Cert.Scan Cert.KernelIdeal Cert.KernelIdeal.Gen Cert.KernelIdeal.Value Cert.ReferenceIdeal.Read

variable (m : (ℓ : Loc nD τ sig) → Buf (Elt Ideal) ℓ)

/-- The kernel's first result is the reference's function of the same arguments. -/
theorem kerY (c : Dev nD) : val_main_v208 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) (m ((c.tc : Thread nD τ).loc main_arg1)) (m ((c.tc : Thread nD τ).loc main_arg2)) = (G11 m c : Vec Ideal S6x20x4x160x256 .bf16) := by
  funext i
  have hi5 : i = (ix5 (i 0) (i 1) (i 2) (i 3) (i 4) : S6x20x4x160x256.Idx) := by
    funext a
    match a with
    | ⟨0, _⟩ => rfl
    | ⟨1, _⟩ => rfl
    | ⟨2, _⟩ => rfl
    | ⟨3, _⟩ => rfl
    | ⟨4, _⟩ => rfl
  rw [hi5]
  rcases chunk (i 4) with ⟨t, ht⟩ | ⟨t, ht⟩
  · rw [ht]
    exact (Cert.ReferenceIdeal.Scan.refLo (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) (m ((c.tc : Thread nD τ).loc main_arg1)) (m ((c.tc : Thread nD τ).loc main_arg2)) (i 0) (i 1) (i 2) (i 3) t).trans (kerLo m c (fun q h f j => ell_ne_top _ _) (i 0) (i 1) (i 2) (i 3) t).symm
  · rw [ht]
    exact (Cert.ReferenceIdeal.Scan.refHi (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) (m ((c.tc : Thread nD τ).loc main_arg1)) (m ((c.tc : Thread nD τ).loc main_arg2)) (i 0) (i 1) (i 2) (i 3) t).trans (kerHi m c (fun q h f j => ell_ne_top _ _) (i 0) (i 1) (i 2) (i 3) t).symm

/-- The kernel's second result is the reference's function of the same arguments. -/
theorem kerS (c : Dev nD) : val_main_v207 (F := Ideal) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) (m ((c.tc : Thread nD τ).loc main_arg1)) = (G12 m c : Vec Ideal S6x20x64x160 .f32) := by
  funext i
  have hi4 : i = (ix4 (i 0) (i 1) (i 2) (i 3) : S6x20x64x160.Idx) := by
    funext a
    match a with
    | ⟨0, _⟩ => rfl
    | ⟨1, _⟩ => rfl
    | ⟨2, _⟩ => rfl
    | ⟨3, _⟩ => rfl
  rw [hi4]
  exact (Cert.ReferenceIdeal.Scan.refFin (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) (m ((c.tc : Thread nD τ).loc main_arg1)) (m ((c.tc : Thread nD τ).loc main_arg2)) (i 0) (i 1) (i 2) (i 3)).trans (kerFin m c (fun q h f j => ell_ne_top _ _) (i 0) (i 1) (i 2) (i 3)).symm

end Cert.KernelIdeal.Scan
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Scan.RefRun
public import proofs.«01_k».proof.Proof.Scan.Meet
public import Idealize.ShloMosaic.Adequacy
public import Idealize.ShloMosaic.Init

@[expose] public section

noncomputable section

namespace Cert.Proof

open Idealize.ShloMosaic Idealize.SL.Sem Cert.Kernel

/-- Every program runs and keeps its arguments, and the kernel's two results are the reference's. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  fun m g m' g' hpre hargs => ⟨fun c => Cert.KernelIdeal.Value.G11 m c, fun c => Cert.KernelIdeal.Value.G12 m c,
    Cert.KernelIdeal.Value.run m g,
    (θ_run _ _ _).mono (fun r h c => by
      obtain ⟨a0, a1, a2, a3, a4, a5, a6, a7, a8, a9, a10⟩ := hargs c
      obtain ⟨h0, h1, hk⟩ := h c
      refine ⟨h0.trans ?_, h1.trans ?_, hk⟩
      · rw [a0, a1, a2, a3, a4, a5, a6, a7, a8, a9, a10]
        exact Cert.KernelIdeal.Scan.kerY m c
      · rw [a0, a1, a3, a4, a6, a7, a8, a9, a10]
        exact Cert.KernelIdeal.Scan.kerS m c) (Cert.ReferenceIdeal.Scan.refRun m' g')⟩⟩

end Cert.Proof

end
